-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v217) = v2 c
          ∧ r.2.mem ((c.tc : Thread Cert.ReferenceIdeal.nD Cert.ReferenceIdeal.τ).loc Cert.ReferenceIdeal.main_v220) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_2)) (v1 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_2) = v0 c
          ∧ r.2.mem ((c.tc : Thread Cert.Kernel3Ideal.nD Cert.Kernel3Ideal.τ).loc Cert.Kernel3Ideal.main_v0_3) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x1024 : Shape := ⟨3, ![2, 8192, 1024]⟩
abbrev S2x256x512 : Shape := ⟨3, ![2, 256, 512]⟩
abbrev S1x1024 : Shape := ⟨2, ![1, 1024]⟩
abbrev S1x1024x5376 : Shape := ⟨3, ![1, 1024, 5376]⟩
abbrev S1x3x1024 : Shape := ⟨3, ![1, 3, 1024]⟩
abbrev S1x8 : Shape := ⟨2, ![1, 8]⟩
abbrev S1x512 : Shape := ⟨2, ![1, 512]⟩
abbrev S1x4x128x128 : Shape := ⟨4, ![1, 4, 128, 128]⟩
abbrev S1x4x128 : Shape := ⟨3, ![1, 4, 128]⟩
abbrev S1x3x512x1024 : Shape := ⟨4, ![1, 3, 512, 1024]⟩
abbrev S1x1024x1024 : Shape := ⟨3, ![1, 1024, 1024]⟩
abbrev S1024 : Shape := ⟨1, ![1024]⟩
abbrev S512 : Shape := ⟨1, ![512]⟩
abbrev S1024x5376 : Shape := ⟨2, ![1024, 5376]⟩
abbrev S3x512x1024 : Shape := ⟨3, ![3, 512, 1024]⟩
abbrev S1024x1024 : Shape := ⟨2, ![1024, 1024]⟩
abbrev S8 : Shape := ⟨1, ![8]⟩
abbrev S4x128 : Shape := ⟨2, ![4, 128]⟩
abbrev S128x4 : Shape := ⟨2, ![128, 4]⟩
abbrev S16384x1024 : Shape := ⟨2, ![16384, 1024]⟩
abbrev S4x128x128 : Shape := ⟨3, ![4, 128, 128]⟩
abbrev S3x1024 : Shape := ⟨2, ![3, 1024]⟩
abbrev S2x128x128 : Shape := ⟨3, ![2, 128, 128]⟩
abbrev S256x1024 : Shape := ⟨2, ![256, 1024]⟩
abbrev S1x256x512 : Shape := ⟨3, ![1, 256, 512]⟩
abbrev S1x128x128 : Shape := ⟨3, ![1, 128, 128]⟩
abbrev S128x128 : Shape := ⟨2, ![128, 128]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S1x256x128 : Shape := ⟨3, ![1, 256, 128]⟩
abbrev S256x256 : Shape := ⟨2, ![256, 256]⟩
abbrev S1x512x1024 : Shape := ⟨3, ![1, 512, 1024]⟩
abbrev S512x1024 : Shape := ⟨2, ![512, 1024]⟩

abbrev nBuf : Space → Nat
  | .hbm => 35
  | .vmem => 28
  | .smem => 1
  | _ => 0

abbrev bufTy : (tb : Table) → Fin (tcTables nBuf tb) → BufTy
  | .hbm, ⟨0, _⟩ => ⟨S2x8192x1024, .f32⟩
  | .hbm, ⟨1, _⟩ => ⟨S2x256x512, .bf16⟩
  | .hbm, ⟨2, _⟩ => ⟨S2x256x512, .bf16⟩
  | .hbm, ⟨3, _⟩ => ⟨S1x1024, .f32⟩
  | .hbm, ⟨4, _⟩ => ⟨S1x1024x5376, .f32⟩
  | .hbm, ⟨5, _⟩ => ⟨S1x3x1024, .f32⟩
  | .hbm, ⟨6, _⟩ => ⟨S1x8, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x3x512x1024, .f32⟩
  | .hbm, ⟨11, _⟩ => ⟨S1x1024x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S512, .f32⟩
  | .hbm, ⟨18, _⟩ => ⟨S1x512, .f32⟩
  | .hbm, ⟨19, _⟩ => ⟨S1024x5376, .f32⟩
  | .hbm, ⟨20, _⟩ => ⟨S1024x5376, .bf16⟩
  | .hbm, ⟨21, _⟩ => ⟨S3x512x1024, .f32⟩
  | .hbm, ⟨22, _⟩ => ⟨S3x512x1024, .bf16⟩
  | .hbm, ⟨23, _⟩ => ⟨S1024x1024, .f32⟩
  | .hbm, ⟨24, _⟩ => ⟨S1024x1024, .bf16⟩
  | .hbm, ⟨25, _⟩ => ⟨S8, .f32⟩
  | .hbm, ⟨26, _⟩ => ⟨S4x128, .f32⟩
  | .hbm, ⟨27, _⟩ => ⟨S128x4, .f32⟩
  | .hbm, ⟨28, _⟩ => ⟨S16384x1024, .f32⟩
  | .hbm, ⟨29, _⟩ => ⟨S4x128x128, .f32⟩
  | .hbm, ⟨30, _⟩ => ⟨S3x1024, .f32⟩
  | .hbm, ⟨31, _⟩ => ⟨S16384x1024, .f32⟩
  | .hbm, ⟨32, _⟩ => ⟨S16384x1024, .bf16⟩
  | .hbm, ⟨33, _⟩ => ⟨S2x128x128, .f32⟩
  | .hbm, ⟨34, _⟩ => ⟨S2x128x128, .f32⟩
  | .local _ .vmem, ⟨0, _⟩ => ⟨S256x1024, .f32⟩
  | .local _ .vmem, ⟨1, _⟩ => ⟨S256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x1024, .f32⟩
  | .local _ .vmem, ⟨7, _⟩ => ⟨S1024x5376, .bf16⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S3x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S128x128, .bf16⟩
  | .local _ .vmem, ⟨24, _⟩ => ⟨S128x128, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .smem, ⟨0, _⟩ => ⟨S8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S2x8192x1024 : Shape := ⟨3, ![2, 8192, 1024]⟩
abbrev S2x256x512 : Shape := ⟨3, ![2, 256, 512]⟩
abbrev S1x1024 : Shape := ⟨2, ![1, 1024]⟩
abbrev S1x1024x5376 : Shape := ⟨3, ![1, 1024, 5376]⟩
abbrev S1x3x1024 : Shape := ⟨3, ![1, 3, 1024]⟩
abbrev S1x8 : Shape := ⟨2, ![1, 8]⟩
abbrev S1x512 : Shape := ⟨2, ![1, 512]⟩
abbrev S1x4x128x128 : Shape := ⟨4, ![1, 4, 128, 128]⟩
abbrev S1x4x128 : Shape := ⟨3, ![1, 4, 128]⟩
abbrev S1x3x512x1024 : Shape := ⟨4, ![1, 3, 512, 1024]⟩
abbrev S1x1024x1024 : Shape := ⟨3, ![1, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5376 : Shape := ⟨2, ![1024, 5376]⟩
abbrev S2x8192x5376 : Shape := ⟨3, ![2, 8192, 5376]⟩
abbrev S2x8192x512 : Shape := ⟨3, ![2, 8192, 512]⟩
abbrev S2x8192x128 : Shape := ⟨3, ![2, 8192, 128]⟩
abbrev S2x8192x4608 : Shape := ⟨3, ![2, 8192, 4608]⟩
abbrev S2x8192x3584 : Shape := ⟨3, ![2, 8192, 3584]⟩
abbrev S2x8192x3072 : Shape := ⟨3, ![2, 8192, 3072]⟩
abbrev S512 : Shape := ⟨1, ![512]⟩
abbrev S1x1x512 : Shape := ⟨3, ![1, 1, 512]⟩
abbrev S2x8192x2x4x64 : Shape := ⟨5, ![2, 8192, 2, 4, 64]⟩
abbrev S2x8192x2x64 : Shape := ⟨4, ![2, 8192, 2, 64]⟩
abbrev S8 : Shape := ⟨1, ![8]⟩
abbrev S2x64x128x2x4x64 : Shape := ⟨6, ![2, 64, 128, 2, 4, 64]⟩
abbrev S2x8320x2x64 : Shape := ⟨4, ![2, 8320, 2, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x64x1x1x128x256 : Shape := ⟨6, ![1, 64, 1, 1, 128, 256]⟩
abbrev S2x64x2x4x128 : Shape := ⟨5, ![2, 64, 2, 4, 128]⟩
abbrev S2x64x2x4x128x1 : Shape := ⟨6, ![2, 64, 2, 4, 128, 1]⟩
abbrev S1x1x2x4x1x1 : Shape := ⟨6, ![1, 1, 2, 4, 1, 1]⟩
abbrev S2x64x2x64x4x128 : Shape := ⟨6, ![2, 64, 2, 64, 4, 128]⟩
abbrev S2x64x128x4x128 : Shape := ⟨5, ![2, 64, 128, 4, 128]⟩
abbrev S4x128x128 : Shape := ⟨3, ![4, 128, 128]⟩
abbrev S4x128 : Shape := ⟨2, ![4, 128]⟩
abbrev S128x128 : Shape := ⟨2, ![128, 128]⟩
abbrev S4x2x64x128x128 : Shape := ⟨5, ![4, 2, 64, 128, 128]⟩
abbrev S128x4 : Shape := ⟨2, ![128, 4]⟩
abbrev S1x1x128x4x1 : Shape := ⟨5, ![1, 1, 128, 4, 1]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x1x512 : Shape := ⟨4, ![2, 8192, 1, 512]⟩
abbrev S2x8192x3x512 : Shape := ⟨4, ![2, 8192, 3, 512]⟩
abbrev S3x512x1024 : Shape := ⟨3, ![3, 512, 1024]⟩
abbrev S3x1024x2x8192 : Shape := ⟨4, ![3, 1024, 2, 8192]⟩
abbrev S2x8192x3x1024 : Shape := ⟨4, ![2, 8192, 3, 1024]⟩
abbrev S3x1024 : Shape := ⟨2, ![3, 1024]⟩
abbrev S1x1x3x1024 : Shape := ⟨4, ![1, 1, 3, 1024]⟩
abbrev S1024x1024 : Shape := ⟨2, ![1024, 1024]⟩
abbrev S16384x1024 : Shape := ⟨2, ![16384, 1024]⟩
abbrev S2x64x128x128 : Shape := ⟨4, ![2, 64, 128, 128]⟩
abbrev S2x1x128x128 : Shape := ⟨4, ![2, 1, 128, 128]⟩
abbrev S2x128x128 : Shape := ⟨3, ![2, 128, 128]⟩

abbrev nBuf : Space → Nat
  | .hbm => 286
  | .vmem => 0
  | .smem => 0
  | _ => 0

abbrev hbmTy0_0 (i : Nat) : BufTy := match i % 128 with
  | 0 => ⟨S2x8192x1024, .f32⟩
  | 1 => ⟨S2x256x512, .bf16⟩
  | 2 => ⟨S2x256x512, .bf16⟩
  | 3 => ⟨S1x1024, .f32⟩
  | 4 => ⟨S1x1024x5376, .f32⟩
  | 5 => ⟨S1x3x1024, .f32⟩
  | 6 => ⟨S1x8, .f32⟩
  | 7 => ⟨S1x512, .f32⟩
  | 8 => ⟨S1x4x128x128, .f32⟩
  | 9 => ⟨S1x4x128, .f32⟩
  | 10 => ⟨S1x3x512x1024, .f32⟩
  | 11 => ⟨S1x1024x1024, .f32⟩
  | 12 => ⟨S1x1024, .f32⟩
  | 13 => ⟨S1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S1024x5376, .f32⟩
  | 31 => ⟨S2x8192x5376, .f32⟩
  | 32 => ⟨S2x8192x512, .f32⟩
  | 33 => ⟨S2x8192x128, .f32⟩
  | 34 => ⟨S2x8192x128, .f32⟩
  | 35 => ⟨S2x8192x4608, .f32⟩
  | 36 => ⟨S2x8192x1024, .f32⟩
  | 37 => ⟨S2x8192x3584, .f32⟩
  | 38 => ⟨S2x8192x512, .f32⟩
  | 39 => ⟨S2x8192x3072, .f32⟩
  | 40 => ⟨S_, .f32⟩
  | 41 => ⟨S2x8192x1024, .f32⟩
  | 42 => ⟨S2x8192x1024, .f32⟩
  | 43 => ⟨S2x8192x1024, .f32⟩
  | 44 => ⟨S_, .f32⟩
  | 45 => ⟨S2x8192x1024, .f32⟩
  | 46 => ⟨S2x8192x1024, .f32⟩
  | 47 => ⟨S2x8192x1024, .f32⟩
  | 48 => ⟨S2x8192x1024, .f32⟩
  | 49 => ⟨S2x8192x512, .f32⟩
  | 50 => ⟨S2x8192x512, .f32⟩
  | 51 => ⟨S512, .f32⟩
  | 52 => ⟨S2x8192x512, .f32⟩
  | 53 => ⟨S_, .f32⟩
  | 54 => ⟨S2x8192, .f32⟩
  | 55 => ⟨S2x8192x1, .f32⟩
  | 56 => ⟨S_, .f32⟩
  | 57 => ⟨S2x8192x1, .f32⟩
  | 58 => ⟨S2x8192x1, .f32⟩
  | 59 => ⟨S_, .f32⟩
  | 60 => ⟨S2x8192x1, .f32⟩
  | 61 => ⟨S2x8192x1, .f32⟩
  | 62 => ⟨S2x8192x1, .f32⟩
  | 63 => ⟨S2x8192x512, .f32⟩
  | 64 => ⟨S2x8192x512, .f32⟩
  | 65 => ⟨S1x1x512, .f32⟩
  | 66 => ⟨S2x8192x512, .f32⟩
  | 67 => ⟨S2x8192x512, .f32⟩
  | 68 => ⟨S2x8192x2x4x64, .f32⟩
  | 69 => ⟨S2x8192x2x64, .f32⟩
  | 70 => ⟨S2x8192x2x64, .f32⟩
  | 71 => ⟨S8, .f32⟩
  | 72 => ⟨S2x64x128x2x4x64, .f32⟩
  | 73 => ⟨S_, .i32⟩
  | 74 => ⟨S_, .f32⟩
  | 75 => ⟨S2x8320x2x64, .f32⟩
  | 76 => ⟨S2x65x128x2x64, .f32⟩
  | 77 => ⟨S2x64x128x2x64, .f32⟩
  | 78 => ⟨S2x64x128x2x64, .f32⟩
  | 79 => ⟨S2x64x256x2x64, .f32⟩
  | 80 => ⟨S_, .i32⟩
  | 81 => ⟨S_, .f32⟩
  | 82 => ⟨S2x8320x2x64, .f32⟩
  | 83 => ⟨S2x65x128x2x64, .f32⟩
  | 84 => ⟨S2x64x128x2x64, .f32⟩
  | 85 => ⟨S2x64x128x2x64, .f32⟩
  | 86 => ⟨S2x64x256x2x64, .f32⟩
  | 87 => ⟨S2x64x2x256x128x4, .f32⟩
  | 88 => ⟨S2x64x2x4x128x256, .f32⟩
  | 89 => ⟨S_, .f32⟩
  | 90 => ⟨S2x64x2x4x128x256, .f32⟩
  | 91 => ⟨S2x64x2x4x128x256, .f32⟩
  | 92 => ⟨S128, .i32⟩
  | 93 => ⟨S256, .i32⟩
  | 94 => ⟨S128x1, .i32⟩
  | 95 => ⟨S_, .i32⟩
  | 96 => ⟨S128x1, .i32⟩
  | 97 => ⟨S128x1, .i32⟩
  | 98 => ⟨S1x256, .i32⟩
  | 99 => ⟨S128x256, .i32⟩
  | 100 => ⟨S128x256, .i32⟩
  | 101 => ⟨S128x256, .i32⟩
  | 102 => ⟨S64, .i32⟩
  | 103 => ⟨S64x1, .i32⟩
  | 104 => ⟨S_, .i32⟩
  | 105 => ⟨S64x1, .i32⟩
  | 106 => ⟨S64x1, .i32⟩
  | 107 => ⟨S_, .i32⟩
  | 108 => ⟨S64x1, .i32⟩
  | 109 => ⟨S64x1, .i32⟩
  | 110 => ⟨S1x256, .i32⟩
  | 111 => ⟨S64x256, .i32⟩
  | 112 => ⟨S64x256, .i32⟩
  | 113 => ⟨S64x256, .i32⟩
  | 114 => ⟨S_, .i32⟩
  | 115 => ⟨S128x256, .i32⟩
  | 116 => ⟨S128x256, .i1⟩
  | 117 => ⟨S_, .i32⟩
  | 118 => ⟨S128x256, .i32⟩
  | 119 => ⟨S128x256, .i1⟩
  | 120 => ⟨S128x256, .i1⟩
  | 121 => ⟨S1x128x256, .i1⟩
  | 122 => ⟨S_, .i32⟩
  | 123 => ⟨S64x256, .i32⟩
  | 124 => ⟨S64x256, .i1⟩
  | 125 => ⟨S64x1x256, .i1⟩
  | 126 => ⟨S64x128x256, .i1⟩
  | 127 => ⟨S64x128x256, .i1⟩
  | _ => ⟨S2x8192x1024, .f32⟩

abbrev hbmTy0_1 (i : Nat) : BufTy := match i % 128 with
  | 0 => ⟨S64x128x256, .i1⟩
  | 1 => ⟨S_, .f32⟩
  | 2 => ⟨S1, .f32⟩
  | 3 => ⟨S_, .f32⟩
  | 4 => ⟨S1, .f32⟩
  | 5 => ⟨S_, .f32⟩
  | 6 => ⟨S1, .f32⟩
  | 7 => ⟨S_, .f32⟩
  | 8 => ⟨S1, .f32⟩
  | 9 => ⟨S_, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S1, .f32⟩
  | 17 => ⟨S8, .f32⟩
  | 18 => ⟨S2x4, .f32⟩
  | 19 => ⟨S2x4x1x1, .f32⟩
  | 20 => ⟨S128x256, .f32⟩
  | 21 => ⟨S1x1x128x256, .f32⟩
  | 22 => ⟨S2x4x128x256, .f32⟩
  | 23 => ⟨S2x4x128x256, .f32⟩
  | 24 => ⟨S2x4x128x256, .f32⟩
  | 25 => ⟨S1x1x2x4x128x256, .f32⟩
  | 26 => ⟨S2x64x2x4x128x256, .f32⟩
  | 27 => ⟨S2x64x2x4x128x256, .f32⟩
  | 28 => ⟨S1x64x1x1x128x256, .i1⟩
  | 29 => ⟨S_, .f32⟩
  | 30 => ⟨S_, .f32⟩
  | 31 => ⟨S2x64x2x4x128x256, .i1⟩
  | 32 => ⟨S2x64x2x4x128x256, .f32⟩
  | 33 => ⟨S2x64x2x4x128x256, .f32⟩
  | 34 => ⟨S2x4, .f32⟩
  | 35 => ⟨S2x4x1x1, .f32⟩
  | 36 => ⟨S_, .f32⟩
  | 37 => ⟨S2x64x2x4x128, .f32⟩
  | 38 => ⟨S2x64x2x4x128x1, .f32⟩
  | 39 => ⟨S1x1x2x4x1x1, .f32⟩
  | 40 => ⟨S2x64x2x4x128x1, .f32⟩
  | 41 => ⟨S2x64x2x4x128x1, .f32⟩
  | 42 => ⟨S2x64x2x4x128x256, .f32⟩
  | 43 => ⟨S2x64x2x4x128x256, .f32⟩
  | 44 => ⟨S2x64x2x4x128x256, .f32⟩
  | 45 => ⟨S_, .f32⟩
  | 46 => ⟨S2x64x2x4x128, .f32⟩
  | 47 => ⟨S2x64x2x4x128x1, .f32⟩
  | 48 => ⟨S1x1x2x4x1x1, .f32⟩
  | 49 => ⟨S2x64x2x4x128x1, .f32⟩
  | 50 => ⟨S2x64x2x4x128x1, .f32⟩
  | 51 => ⟨S2x64x2x4x128x1, .f32⟩
  | 52 => ⟨S2x64x2x4x128x1, .f32⟩
  | 53 => ⟨S2x64x2x4x128x256, .f32⟩
  | 54 => ⟨S2x64x2x4x128x256, .f32⟩
  | 55 => ⟨S2x64x2x64x4x128, .f32⟩
  | 56 => ⟨S2x64x128x2x4x64, .f32⟩
  | 57 => ⟨S2x8192x512, .f32⟩
  | 58 => ⟨S2x64x128x4x128, .f32⟩
  | 59 => ⟨S2x64x128x4x128, .f32⟩
  | 60 => ⟨S4x128x128, .f32⟩
  | 61 => ⟨S4x128, .f32⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S4x128x128, .i1⟩
  | 69 => ⟨S_, .f32⟩
  | 70 => ⟨S4x128x128, .f32⟩
  | 71 => ⟨S4x128x128, .f32⟩
  | 72 => ⟨S4x2x64x128x128, .f32⟩
  | 73 => ⟨S2x64x128x4x128, .f32⟩
  | 74 => ⟨S128x4, .f32⟩
  | 75 => ⟨S1x1x128x4x1, .f32⟩
  | 76 => ⟨S2x64x128x4x128, .f32⟩
  | 77 => ⟨S2x64x128x4x128, .f32⟩
  | 78 => ⟨S2x64x128x4x128, .f32⟩
  | 79 => ⟨S2x8192x512, .f32⟩
  | 80 => ⟨S2x8192x4x128, .f32⟩
  | 81 => ⟨S2x256x512, .f32⟩
  | 82 => ⟨S2x256x4x128, .f32⟩
  | 83 => ⟨S2x256x512, .f32⟩
  | 84 => ⟨S2x256x4x128, .f32⟩
  | 85 => ⟨S2x4x8192x256, .f32⟩
  | 86 => ⟨S_, .f32⟩
  | 87 => ⟨S2x4x8192x256, .f32⟩
  | 88 => ⟨S2x4x8192x256, .f32⟩
  | 89 => ⟨S_, .f32⟩
  | 90 => ⟨S2x4x8192, .f32⟩
  | 91 => ⟨S_, .f32⟩
  | 92 => ⟨S2x4x8192, .f32⟩
  | 93 => ⟨S2x4x8192, .f32⟩
  | 94 => ⟨S2x4x8192x1, .f32⟩
  | 95 => ⟨S2x4x8192x256, .f32⟩
  | 96 => ⟨S2x4x8192x256, .f32⟩
  | 97 => ⟨S2x4x8192x256, .f32⟩
  | 98 => ⟨S_, .f32⟩
  | 99 => ⟨S2x4x8192, .f32⟩
  | 100 => ⟨S2x4x8192x1, .f32⟩
  | 101 => ⟨S2x4x8192x256, .f32⟩
  | 102 => ⟨S2x4x8192x256, .f32⟩
  | 103 => ⟨S2x4x128x8192, .f32⟩
  | 104 => ⟨S2x8192x4x128, .f32⟩
  | 105 => ⟨S2x8192x512, .f32⟩
  | 106 => ⟨S2x8192x1x512, .f32⟩
  | 107 => ⟨S2x8192x1x512, .f32⟩
  | 108 => ⟨S2x8192x1x512, .f32⟩
  | 109 => ⟨S2x8192x3x512, .f32⟩
  | 110 => ⟨S3x512x1024, .f32⟩
  | 111 => ⟨S3x1024x2x8192, .f32⟩
  | 112 => ⟨S2x8192x3x1024, .f32⟩
  | 113 => ⟨S2x8192x3x1024, .f32⟩
  | 114 => ⟨S3x1024, .f32⟩
  | 115 => ⟨S1x1x3x1024, .f32⟩
  | 116 => ⟨S2x8192x3x1024, .f32⟩
  | 117 => ⟨S2x8192x3x1024, .f32⟩
  | 118 => ⟨S2x8192x3x1024, .f32⟩
  | 119 => ⟨S2x8192x3x1024, .f32⟩
  | 120 => ⟨S_, .f32⟩
  | 121 => ⟨S2x8192x3x1024, .f32⟩
  | 122 => ⟨S2x8192x3x1024, .f32⟩
  | 123 => ⟨S_, .f32⟩
  | 124 => ⟨S2x8192x3x1024, .f32⟩
  | 125 => ⟨S2x8192x3x1024, .f32⟩
  | 126 => ⟨S2x8192x3x1024, .f32⟩
  | 127 => ⟨S_, .f32⟩
  | _ => ⟨S2x8192x1024, .f32⟩

abbrev hbmTy0_2 (i : Nat) : BufTy := match i % 128 with
  | 0 => ⟨S2x8192x1024, .f32⟩
  | 1 => ⟨S1024x1024, .f32⟩
  | 2 => ⟨S2x8192x1024, .f32⟩
  | 3 => ⟨S2x8192x1024, .f32⟩
  | 4 => ⟨S1024, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S16384x1024, .f32⟩
  | 22 => ⟨S2x8192x1024, .bf16⟩
  | 23 => ⟨S16384x1024, .bf16⟩
  | 24 => ⟨S2x64x128x128, .f32⟩
  | 25 => ⟨S2x1x128x128, .f32⟩
  | 26 => ⟨S2x128x128, .f32⟩
  | 27 => ⟨S2x64x128x128, .f32⟩
  | 28 => ⟨S2x1x128x128, .f32⟩
  | 29 => ⟨S2x128x128, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_7 : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_9 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_v78 : Ref sig .tc := ⟨.hbm, 106, rfl⟩
abbrev main_c_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_12 : Ref sig .tc := ⟨.hbm, 114, rfl⟩
abbrev main_v85 : Ref sig .tc := ⟨.hbm, 115, rfl⟩
abbrev main_v86 : Ref sig .tc := ⟨.hbm, 116, rfl⟩
abbrev main_c_13 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_14 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_15 : Ref sig .tc := ⟨.hbm, 129, rfl⟩
abbrev main_v97 : Ref sig .tc := ⟨.hbm, 130, rfl⟩
abbrev main_cst_16 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_cst_18 : Ref sig .tc := ⟨.hbm, 135, rfl⟩
abbrev main_v100 : Ref sig .tc := ⟨.hbm, 136, rfl⟩
abbrev main_cst_19 : Ref sig .tc := ⟨.hbm, 137, rfl⟩
abbrev main_v101 : Ref sig .tc := ⟨.hbm, 138, rfl⟩
abbrev main_cst_20 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_cst_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_23 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_24 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call3_v0 : Ref sig .tc := ⟨.hbm, 190, rfl⟩
abbrev main_call3_c : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_call3_v5 : Ref sig .tc := ⟨.hbm, 196, rfl⟩
abbrev main_call3_cst : Ref sig .tc := ⟨.hbm, 197, rfl⟩
abbrev main_call3_v6 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_26 : Ref sig .tc := ⟨.hbm, 214, rfl⟩
abbrev main_v159 : Ref sig .tc := ⟨.hbm, 215, rfl⟩
abbrev main_v160 : Ref sig .tc := ⟨.hbm, 216, rfl⟩
abbrev main_cst_27 : Ref sig .tc := ⟨.hbm, 217, rfl⟩
abbrev main_v161 : Ref sig .tc := ⟨.hbm, 218, rfl⟩
abbrev main_cst_28 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_29 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_30 : Ref sig .tc := ⟨.hbm, 248, rfl⟩
abbrev main_v189 : Ref sig .tc := ⟨.hbm, 249, rfl⟩
abbrev main_v190 : Ref sig .tc := ⟨.hbm, 250, rfl⟩
abbrev main_cst_31 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_cst_32 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_33 : Ref sig .tc := ⟨.hbm, 262, rfl⟩
abbrev main_v200 : Ref sig .tc := ⟨.hbm, 263, rfl⟩
abbrev main_v201 : Ref sig .tc := ⟨.hbm, 264, rfl⟩
abbrev main_cst_34 : Ref sig .tc := ⟨.hbm, 265, rfl⟩
abbrev main_v202 : Ref sig .tc := ⟨.hbm, 266, rfl⟩
abbrev main_v203 : Ref sig .tc := ⟨.hbm, 267, rfl⟩
abbrev main_cst_35 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩

abbrev nD : Nat := 1
abbrev τ : Topo := Topo.v7x

variable {F : FTy → Type} [FloatOps F]
-- ==== Kernel2.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S2x256x512 : Shape := ⟨3, ![2, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 11
  | .vmem => 12
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S2x256x512, .f32⟩
  | .hbm, ⟨8, _⟩ => ⟨S2x256x512, .f32⟩
  | .hbm, ⟨9, _⟩ => ⟨S2x256x512, .bf16⟩
  | .hbm, ⟨10, _⟩ => ⟨S2x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S2x256x512 : Shape := ⟨3, ![2, 256, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x1024, .f32⟩
  | .hbm, ⟨21, _⟩ => ⟨S2x256x1024, .f32⟩
  | .hbm, ⟨22, _⟩ => ⟨S2x256x512, .f32⟩
  | .hbm, ⟨23, _⟩ => ⟨S2x256x512, .f32⟩
  | .hbm, ⟨24, _⟩ => ⟨S2x256x512, .bf16⟩
  | .hbm, ⟨25, _⟩ => ⟨S2x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S8 : Shape := ⟨1, ![8]⟩
abbrev S4096x128 : Shape := ⟨2, ![4096, 128]⟩
abbrev S2048x128 : Shape := ⟨2, ![2048, 128]⟩
abbrev S512x128 : Shape := ⟨2, ![512, 128]⟩
abbrev S128x128x128 : Shape := ⟨3, ![128, 128, 128]⟩
abbrev S128x256x512 : Shape := ⟨3, ![128, 256, 512]⟩
abbrev S512x512 : Shape := ⟨2, ![512, 512]⟩
abbrev S256x128 : Shape := ⟨2, ![256, 128]⟩
abbrev S128x128 : Shape := ⟨2, ![128, 128]⟩
abbrev S32x128 : Shape := ⟨2, ![32, 128]⟩
abbrev S8x128x128 : Shape := ⟨3, ![8, 128, 128]⟩
abbrev S8x256x512 : Shape := ⟨3, ![8, 256, 512]⟩
abbrev S32x512 : Shape := ⟨2, ![32, 512]⟩
abbrev S32x256 : Shape := ⟨2, ![32, 256]⟩
abbrev S32x1 : Shape := ⟨2, ![32, 1]⟩
abbrev S1 : Shape := ⟨1, ![1]⟩
abbrev S4x512 : Shape := ⟨2, ![4, 512]⟩
abbrev S1x128x128 : Shape := ⟨3, ![1, 128, 128]⟩
abbrev S4x128 : Shape := ⟨2, ![4, 128]⟩
abbrev S32 : Shape := ⟨1, ![32]⟩
abbrev S256x512 : Shape := ⟨2, ![256, 512]⟩
abbrev S16x128 : Shape := ⟨2, ![16, 128]⟩
abbrev S16x512 : Shape := ⟨2, ![16, 512]⟩
abbrev S1x256x512 : Shape := ⟨3, ![1, 256, 512]⟩
abbrev S16x256 : Shape := ⟨2, ![16, 256]⟩
abbrev S16 : Shape := ⟨1, ![16]⟩
abbrev S16x1 : Shape := ⟨2, ![16, 1]⟩

abbrev nBuf : Space → Nat
  | .hbm => 16
  | .vmem => 32
  | .smem => 1
  | _ => 0

abbrev bufTy : (tb : Table) → Fin (tcTables nBuf tb) → BufTy
  | .hbm, ⟨0, _⟩ => ⟨S8, .f32⟩
  | .hbm, ⟨1, _⟩ => ⟨S4096x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S512x128, .f32⟩
  | .hbm, ⟨7, _⟩ => ⟨S512x128, .f32⟩
  | .hbm, ⟨8, _⟩ => ⟨S128x128x128, .f32⟩
  | .hbm, ⟨9, _⟩ => ⟨S128x128x128, .f32⟩
  | .hbm, ⟨10, _⟩ => ⟨S128x256x512, .f32⟩
  | .hbm, ⟨11, _⟩ => ⟨S128x256x512, .f32⟩
  | .hbm, ⟨12, _⟩ => ⟨S512x512, .f32⟩
  | .hbm, ⟨13, _⟩ => ⟨S512x512, .f32⟩
  | .hbm, ⟨14, _⟩ => ⟨S128x128x128, .f32⟩
  | .hbm, ⟨15, _⟩ => ⟨S128x128x128, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x256x512, .f32⟩
  | .local _ .vmem, ⟨19, _⟩ => ⟨S8x256x512, .f32⟩
  | .local _ .vmem, ⟨20, _⟩ => ⟨S8x256x512, .f32⟩
  | .local _ .vmem, ⟨21, _⟩ => ⟨S8x256x512, .f32⟩
  | .local _ .vmem, ⟨22, _⟩ => ⟨S32x512, .f32⟩
  | .local _ .vmem, ⟨23, _⟩ => ⟨S32x512, .f32⟩
  | .local _ .vmem, ⟨24, _⟩ => ⟨S32x512, .f32⟩
  | .local _ .vmem, ⟨25, _⟩ => ⟨S32x512, .f32⟩
  | .local _ .vmem, ⟨26, _⟩ => ⟨S8x128x128, .f32⟩
  | .local _ .vmem, ⟨27, _⟩ => ⟨S8x128x128, .f32⟩
  | .local _ .vmem, ⟨28, _⟩ => ⟨S8x128x128, .f32⟩
  | .local _ .vmem, ⟨29, _⟩ => ⟨S8x128x128, .f32⟩
  | .local _ .vmem, ⟨30, _⟩ => ⟨S256x128, .f32⟩
  | .local _ .vmem, ⟨31, _⟩ => ⟨S256x128, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8 : Shape := ⟨1, ![8]⟩
abbrev S4096x128 : Shape := ⟨2, ![4096, 128]⟩
abbrev S2048x128 : Shape := ⟨2, ![2048, 128]⟩
abbrev S512x128 : Shape := ⟨2, ![512, 128]⟩
abbrev S128x128x128 : Shape := ⟨3, ![128, 128, 128]⟩
abbrev S128x256x512 : Shape := ⟨3, ![128, 256, 512]⟩
abbrev S128x4x128 : Shape := ⟨3, ![128, 4, 128]⟩
abbrev S128x132x128 : Shape := ⟨3, ![128, 132, 128]⟩

abbrev nBuf : Space → Nat
  | .hbm => 18
  | .vmem => 0
  | .smem => 0
  | _ => 0

abbrev bufTy : (tb : Table) → Fin (tcTables nBuf tb) → BufTy
  | .hbm, ⟨0, _⟩ => ⟨S8, .f32⟩
  | .hbm, ⟨1, _⟩ => ⟨S4096x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S512x128, .f32⟩
  | .hbm, ⟨7, _⟩ => ⟨S512x128, .f32⟩
  | .hbm, ⟨8, _⟩ => ⟨S128x128x128, .f32⟩
  | .hbm, ⟨9, _⟩ => ⟨S128x128x128, .f32⟩
  | .hbm, ⟨10, _⟩ => ⟨S128x256x512, .f32⟩
  | .hbm, ⟨11, _⟩ => ⟨S128x256x512, .f32⟩
  | .hbm, ⟨12, _⟩ => ⟨S128x4x128, .f32⟩
  | .hbm, ⟨13, _⟩ => ⟨S128x132x128, .f32⟩
  | .hbm, ⟨14, _⟩ => ⟨S128x4x128, .f32⟩
  | .hbm, ⟨15, _⟩ => ⟨S128x132x128, .f32⟩
  | .hbm, ⟨16, _⟩ => ⟨S128x128x128, .f32⟩
  | .hbm, ⟨17, _⟩ => ⟨S128x128x128, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.MemKv.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

/-!
# The memory key/value projection

The second call normalizes every row of the memory and multiplies by the joint key/value weight; its four arrays are the
key half and the value half, once in f32 and once rounded to bf16. Each array after the run is the reference's own term.
-/

@[expose] public section

set_option maxRecDepth 16384

noncomputable section

open Idealize.ShloMosaic Idealize.ShloMosaic.TcCoe Idealize.SL.Sem
open Idealize.ShloMosaic.Pipeline (Dat)

namespace Cert.Kernel2Ideal.MemKv

open Cert.Kernel2Ideal Cert.Kernel2Ideal.Gen
open Cert.Reference2Ideal.Read

variable (m : (ℓ : Loc nD τ sig) → Buf (Elt Ideal) ℓ)

/-- Every window's block index at a grid point: the batch entry for the memory and the four results, the whole array for
    the normalization gain and the weight. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] :=
  (by decide +kernel : ∀ t : Fin grid0.N, _)

/-- The joint key/value projection of one staged batch entry, read at a row and a column, is the reference's product read
    there at that batch entry. -/
theorem point (c : Dev nD) (t : Fin cfg0.N) (b : Fin 2) (hb : b.val = t.val) (r : Fin 256) (j : Fin 1024) :
    k0_pay2 (F := Ideal) (iblk m c 0 t) (iblk m c 1 t) (iblk m c 2 t) (ix2 r j)
      = val_main_v15 (F := Ideal) (m ((c : Thread nD τ).loc main_arg0)) (m ((c : Thread nD τ).loc main_arg1))
          (m ((c : Thread nD τ).loc main_arg2)) (ix3 b r j) := by
  pointwise [k0_pay2, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  blk_point [iblk, V, idx t]

/-- The f32 key array after the run is the reference's f32 key result. -/
theorem final3 (c : Dev nD) : (dats m 0 c).arrAt 3 (cfgs 0).N
    = val_main_v16 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  pointwise [k0_pay5, k0_pay3, val_main_v16]
  refine (point m c t ⟨t.val, t.isLt⟩ rfl _ _).trans (congrArg _ ?_)
  blk_ext [idx t]

/-- The f32 value array after the run is the reference's f32 value result. -/
theorem final4 (c : Dev nD) : (dats m 0 c).arrAt 4 (cfgs 0).N
    = val_main_v17 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  frame_out
  pointwise [k0_pay6, k0_pay4, val_main_v17]
  refine (point m c t ⟨t.val, t.isLt⟩ rfl _ _).trans (congrArg _ ?_)
  blk_ext [idx t]

/-- The bf16 key array after the run is the reference's bf16 key result. -/
theorem final5 (c : Dev nD) : (dats m 0 c).arrAt 5 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  frame_out
  pointwise [k0_pay7, k0_pay3, val_main_v18, val_main_v16]
  refine (point m c t ⟨t.val, t.isLt⟩ rfl _ _).trans (congrArg _ ?_)
  blk_ext [idx t]

/-- The bf16 value array after the run is the reference's bf16 value result. -/
theorem final6 (c : Dev nD) : (dats m 0 c).arrAt 6 (cfgs 0).N
    = val_main_v19 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]
  frame_out
  pointwise [k0_pay1, k0_pay8, k0_pay4, val_main_v19, val_main_v17]
  refine (point m c t ⟨t.val, t.isLt⟩ rfl _ _).trans (congrArg _ ?_)
  blk_ext [idx t]

end Cert.Kernel2Ideal.MemKv
-- ==== Proof.MemKvClaims.lean ====
module

public import Idealize.ShloMosaic.Init
public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.MemKv
public import Idealize.ShloMosaic.Adequacy
public import Idealize.ShloMosaic.Lib.Claim
public import Idealize.ShloMosaic.Lib.Quiescent
import all Idealize.ShloMosaic.Lib.Claim

/-! The claims about the call `mem_kv` (`Kernel2`): the three frames and the equality with its reference. -/

@[expose] public section

set_option maxRecDepth 16384

noncomputable section

namespace Cert.MemKvClaims

open Idealize.ShloMosaic Idealize.SL.Sem

/-- The call runs at the hardware's floats, keeps its arguments and ends with every counter at zero. -/
theorem frame_bits : Cert.quiescent_Kernel2 := fun m ρ _ => Cert.Kernel2.Gen.frame m ρ

/-- The same of its idealization. -/
theorem frame_ideal : Cert.quiescent_Kernel2Ideal := fun m ρ _ => Cert.Kernel2Ideal.Gen.frame m ρ

/-- The reference of the call runs and keeps its arguments; it has no semaphore, so every counter is zero. -/
theorem frame_reference : Cert.quiescent_Reference2Ideal := by
  intro m ρ _
  hlo_run
  · exact fun _ => by simp
  · exact sem_eq_zero_of_no_sems (sig := Cert.Reference2Ideal.sig) rfl _

/-- **The memory keys and values.** At the extended reals the call's four arrays are those of the plain mathematics. -/
theorem equal : Cert.algebraic_Kernel2Ideal_Reference2Ideal := by
  pair_intro
  · run_from Cert.Kernel2Ideal.Value.run_blocks m g
  · run_from Cert.Reference2Ideal.Value.run m' g'
    · exact ((Cert.Kernel2Ideal.MemKv.final3 m c).trans (Cert.Reference2Ideal.Read.val_main_v16_eq _ _ _)).symm
    · exact ((Cert.Kernel2Ideal.MemKv.final4 m c).trans (Cert.Reference2Ideal.Read.val_main_v17_eq _ _ _)).symm
    · exact ((Cert.Kernel2Ideal.MemKv.final5 m c).trans (Cert.Reference2Ideal.Read.val_main_v18_eq _ _ _)).symm
    · exact ((Cert.Kernel2Ideal.MemKv.final6 m c).trans (Cert.Reference2Ideal.Read.val_main_v19_eq _ _ _)).symm

end Cert.MemKvClaims

end
-- ==== Proof.SampleWindow.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

/-!
# The sample windows

For every sequence the body puts the cached window and the sequence's four new rows side by side in a buffer of 256 rows,
and stores the rows 4 … 131 of that buffer as the next window: the cache without its oldest four rows, then the new rows.
-/

@[expose] public section

set_option maxRecDepth 16384

noncomputable section

open Idealize.ShloMosaic Idealize.ShloMosaic.TcCoe Idealize.SL.Sem
open Idealize.ShloMosaic.Pipeline (Dat)

namespace Cert.Kernel3Ideal.SampleWindow

open Cert.Kernel3Ideal Cert.Kernel3Ideal.Gen
open Cert.Reference3Ideal.Read

variable (m : (ℓ : Loc nD τ sig) → Buf (Elt Ideal) ℓ)

/-- The block indices of the windows read and written here: grid point `t` takes the `t`-th block of sequences. -/
theorem idx : ∀ t : Fin cfg0.N, win0_6.index t = ![t.val, 0] ∧ win0_7.index t = ![t.val, 0]
    ∧ win0_8.index t = ![t.val, 0, 0] ∧ win0_9.index t = ![t.val, 0, 0]
    ∧ win0_14.index t = ![t.val, 0, 0] ∧ win0_15.index t = ![t.val, 0, 0] :=
  (by decide +kernel : ∀ t : Fin grid0.N, _)

/-! ## The reference, read at an index -/

section Reference

variable (new : FVec Ideal S512x128 .f32) (old : FVec Ideal S128x128x128 .f32)

/-- The first 124 rows of the next window are the cache's rows from the fifth on. -/
theorem next_old (s a b e : Fin 128) (hb : b.val = 4 + a.val) :
    val_main_v4 (F := Ideal) new old (ix3 s a e) = old (ix3 s b e) := by
  rw [val_main_v4_apply]
  unfold val_main_v1
  refine concatenate_pair_apply_left (t := Cert.Reference3Ideal.S128x132x128) (s₁ := Cert.Reference3Ideal.S128x128x128)
    (s₂ := Cert.Reference3Ideal.S128x4x128) 1 old _ _ _ rfl (ix3 s b e) fun d => ?_
  match d with
  | ⟨0, _⟩ => rfl
  | ⟨1, _⟩ => exact hb
  | ⟨2, _⟩ => rfl

/-- The last four rows of the next window are the sequence's new rows. -/
theorem next_new (s a e : Fin 128) (k : Fin 4) (r : Fin 512) (ha : a.val = 124 + k.val) (hr : r.val = s.val * 4 + k.val) :
    val_main_v4 (F := Ideal) new old (ix3 s a e) = new (ix2 r e) := by
  rw [val_main_v4_apply]
  unfold val_main_v1
  refine (concatenate_pair_apply_right (t := Cert.Reference3Ideal.S128x132x128) (s₁ := Cert.Reference3Ideal.S128x128x128)
    (s₂ := Cert.Reference3Ideal.S128x4x128) 1 old _ _ _ rfl rfl (ix3 s k e) (fun d hd => ?_) ?_).trans ?_
  · match d with
    | ⟨0, _⟩ => rfl
    | ⟨1, _⟩ => exact absurd rfl hd
    | ⟨2, _⟩ => rfl
  · show k.val + 128 = 4 + a.val
    omega
  · rw [val_main_v0_apply]
    refine congrArg new (funext fun d => ?_)
    match d with
    | ⟨0, _⟩ =>
      refine Fin.ext ?_
      show ((s.val * 4 + k.val) * 128 + e.val) / 128 = r.val
      omega
    | ⟨1, _⟩ =>
      refine Fin.ext ?_
      show ((s.val * 4 + k.val) * 128 + e.val) % 128 = e.val
      omega

end Reference

/-! ## The buffer of 256 rows, read back -/

section Buffer

variable {κ : Kind} {sp : Space} (v : View sig κ sp S256x128 .f32) (new : S4x128.Idx → Elt Ideal .f32)
  (old : S128x128.Idx → Elt Ideal .f32) (L : List (View.Piece (Elt Ideal) S256x128 .f32))
  (h1 : ∀ a, (![128, 0] : Fin 2 → ℕ) a + (![4, 128] : Fin 2 → ℕ) a ≤ S256x128.size a)
  (h2 : ∀ a, (![0, 0] : Fin 2 → ℕ) a + (![128, 128] : Fin 2 → ℕ) a ≤ S256x128.size a)
  (h5 : ∀ a, (![4, 0] : Fin 2 → ℕ) a + (![128, 128] : Fin 2 → ℕ) a ≤ S256x128.size a)

/-- Rows below 124 of the read-back are rows of the cache. -/
theorem load_old (a b e : Fin 128) (hb : b.val = 4 + a.val) :
    v.readCov (Val := Elt Ideal) (⟨Rect.unit (s := S256x128) ![128, 0] ![4, 128] h1, new⟩
        :: ⟨Rect.unit (s := S256x128) ![0, 0] ![128, 128] h2, old⟩ :: L)
      (Rect.unit (s := S256x128) ![4, 0] ![128, 128] h5).toLoadRect (ix2 a e) = old (ix2 b e) := by
  rw [View.readCov_eq_canon']
  have hi : (Rect.unit (s := S256x128) ![4, 0] ![128, 128] h5).toLoadRect.idx (ix2 a e)
      = (Rect.unit (s := S256x128) ![0, 0] ![128, 128] h2).emb (ix2 b e) := by
    funext d
    refine Fin.ext ?_
    match d with
    | ⟨0, _⟩ =>
      show 4 + 1 * a.val = 0 + 1 * b.val
      omega
    | ⟨1, _⟩ => rfl
  show View.canon _ _ = _
  rw [View.canon_cons_of_not_mem, hi, View.canon_cons_emb]
  rw [Rect.mem_set_unit, hi]
  intro h
  have h0 : 128 ≤ 0 + 1 * b.val := (h 0).1
  omega

/-- The last four rows of the read-back are the new rows. -/
theorem load_new (a e : Fin 128) (k : Fin 4) (ha : a.val = 124 + k.val) :
    v.readCov (Val := Elt Ideal) (⟨Rect.unit (s := S256x128) ![128, 0] ![4, 128] h1, new⟩ :: L)
      (Rect.unit (s := S256x128) ![4, 0] ![128, 128] h5).toLoadRect (ix2 a e) = new (ix2 k e) := by
  rw [View.readCov_eq_canon']
  have hi : (Rect.unit (s := S256x128) ![4, 0] ![128, 128] h5).toLoadRect.idx (ix2 a e)
      = (Rect.unit (s := S256x128) ![128, 0] ![4, 128] h1).emb (ix2 k e) := by
    funext d
    refine Fin.ext ?_
    match d with
    | ⟨0, _⟩ =>
      show 4 + 1 * a.val = 128 + 1 * k.val
      omega
    | ⟨1, _⟩ => rfl
  show View.canon _ _ = _
  rw [hi, View.canon_cons_emb]

end Buffer

/-! ## One sequence -/

/-- The index `z` of the whole array is the index `y` of the block of sequences a grid point `t` works on. -/
def IsRow (t : ℕ) (y : S8x128x128.Idx) (z : S128x128x128.Idx) : Prop :=
  (z 0).val = t * 8 + (y 0).val ∧ (z 1).val = (y 1).val ∧ (z 2).val = (y 2).val

/-- A stored piece holds `w` at every index that lands on the index `y` of the block, `g` being the piece's sequence. -/
def Holds (y : S8x128x128.Idx) (w : Elt Ideal .f32) (g : ℕ) (p : S1x128x128.Idx → Elt Ideal .f32) : Prop :=
  ∀ x : S1x128x128.Idx, (y 0).val = g → (y 1).val = (x 1).val → (y 2).val = (x 2).val → p x = w

/-- Eight sequences stored one after the other, read at an index. -/
theorem stores (p0 p1 p2 p3 p4 p5 p6 p7 : S1x128x128.Idx → Elt Ideal .f32) (y : S8x128x128.Idx) (w : Elt Ideal .f32)
    (h0 : Holds y w 0 p0) (h1 : Holds y w 1 p1) (h2 : Holds y w 2 p2) (h3 : Holds y w 3 p3) (h4 : Holds y w 4 p4)
    (h5 : Holds y w 5 p5) (h6 : Holds y w 6 p6) (h7 : Holds y w 7 p7) :
    View.canon (Val := Elt Ideal) (s := S8x128x128) (e := .f32)
      [⟨Rect.unit ![7, 0, 0] ![1, 128, 128] inb_S8x128x128_S1x128x128_7_0_0, p7⟩,
        ⟨Rect.unit ![6, 0, 0] ![1, 128, 128] inb_S8x128x128_S1x128x128_6_0_0, p6⟩,
        ⟨Rect.unit ![5, 0, 0] ![1, 128, 128] inb_S8x128x128_S1x128x128_5_0_0, p5⟩,
        ⟨Rect.unit ![4, 0, 0] ![1, 128, 128] inb_S8x128x128_S1x128x128_4_0_0, p4⟩,
        ⟨Rect.unit ![3, 0, 0] ![1, 128, 128] inb_S8x128x128_S1x128x128_3_0_0, p3⟩,
        ⟨Rect.unit ![2, 0, 0] ![1, 128, 128] inb_S8x128x128_S1x128x128_2_0_0, p2⟩,
        ⟨Rect.unit ![1, 0, 0] ![1, 128, 128] inb_S8x128x128_S1x128x128_1_0_0, p1⟩,
        ⟨Rect.unit ![0, 0, 0] ![1, 128, 128] inb_S8x128x128_S1x128x128_0_0_0, p0⟩] y = w := by
  canon_tiles x hx
  · exact h7 x (by omega) (by assumption) (by assumption)
  · exact h6 x (by omega) (by assumption) (by assumption)
  · exact h5 x (by omega) (by assumption) (by assumption)
  · exact h4 x (by omega) (by assumption) (by assumption)
  · exact h3 x (by omega) (by assumption) (by assumption)
  · exact h2 x (by omega) (by assumption) (by assumption)
  · exact h1 x (by omega) (by assumption) (by assumption)
  · exact h0 x (by omega) (by assumption) (by assumption)

section Sequence

variable (new : FVec Ideal S512x128 .f32) (old : FVec Ideal S128x128x128 .f32) (t : ℕ)
  (X : S32x128.Idx → Elt Ideal .f32) (Y : S8x128x128.Idx → Elt Ideal .f32)
  (hX : ∀ (r : Fin 32) (e : Fin 128) (R : Fin 512), R.val = t * 32 + r.val → X (ix2 r e) = new (ix2 R e))
  (hY : ∀ (g : Fin 8) (a e s : Fin 128), s.val = t * 8 + g.val → Y (ix3 g a e) = old (ix3 s a e))

include hX hY in
/-- What is stored for the sequence `g` of a block of eight is that sequence's next window. -/
theorem window_piece {κ : Kind} {sp : Space} (v : View sig κ sp S256x128 .f32)
    (L : List (View.Piece (Elt Ideal) S256x128 .f32)) (g o : ℕ) (ho : o = g * 4)
    (y : S8x128x128.Idx) (z : S128x128x128.Idx) (hz : IsRow t y z)
    (h1 : ∀ a, (![128, 0] : Fin 2 → ℕ) a + (![4, 128] : Fin 2 → ℕ) a ≤ S256x128.size a)
    (h2 : ∀ a, (![0, 0] : Fin 2 → ℕ) a + (![128, 128] : Fin 2 → ℕ) a ≤ S256x128.size a)
    (h3 : ∀ a, (![o, 0] : Fin 2 → ℕ) a + (![4, 128] : Fin 2 → ℕ) a ≤ S32x128.size a)
    (h4 : ∀ a, (![g, 0, 0] : Fin 3 → ℕ) a + (![1, 128, 128] : Fin 3 → ℕ) a ≤ S8x128x128.size a)
    (h5 : ∀ a, (![4, 0] : Fin 2 → ℕ) a + (![128, 128] : Fin 2 → ℕ) a ≤ S256x128.size a)
    (c1 : S4x128.ShapeCasts S4x128) (c2 : S1x128x128.ShapeCasts S128x128) (c3 : S128x128.ShapeCasts S128x128)
    (c4 : S128x128.ShapeCasts S1x128x128) :
    Holds y (val_main_v4 (F := Ideal) new old z) g (shapeCast S1x128x128 (v.readCov (Val := Elt Ideal)
        (⟨Rect.unit (s := S256x128) ![128, 0] ![4, 128] h1,
            shapeCast S4x128 (View.ld (Val := Elt Ideal) (e' := .f32) X (Rect.unit (s := S32x128) ![o, 0] ![4, 128] h3)) c1⟩
          :: ⟨Rect.unit (s := S256x128) ![0, 0] ![128, 128] h2, shapeCast S128x128 (shapeCast S128x128
            (View.ld (Val := Elt Ideal) (e' := .f32) Y (Rect.unit (s := S8x128x128) ![g, 0, 0] ![1, 128, 128] h4)) c2) c3⟩ :: L)
        (Rect.unit (s := S256x128) ![4, 0] ![128, 128] h5).toLoadRect) c4) := by
  intro x x0 x1' x2'
  obtain ⟨s, a, e, rfl⟩ : ∃ s a e, z = ix3 s a e := ⟨z 0, z 1, z 2, (ix3_eta z).symm⟩
  obtain ⟨z0, z1, z2⟩ := hz
  have hg : g < 8 := x0 ▸ (y 0).isLt
  have hs : s.val = t * 8 + g := z0.trans (congrArg (t * 8 + ·) x0)
  have x1 : a.val = (x 1).val := z1.trans x1'
  have x2 : e.val = (x 2).val := z2.trans x2'
  have hx : (fun d : Fin 2 => x d.succ) = ix2 a e := by
    funext d
    match d with
    | ⟨0, _⟩ => exact Fin.ext x1.symm
    | ⟨1, _⟩ => exact Fin.ext x2.symm
  refine (shapeCast_addUnit_apply ![128, 128] _ c4 x).trans ((congrArg _ hx).trans ?_)
  by_cases ha : a.val < 124
  · have hb : 4 + a.val < 128 := by omega
    rw [load_old v _ _ L h1 h2 h5 a ⟨4 + a.val, hb⟩ e rfl, next_old new old s a ⟨4 + a.val, hb⟩ e rfl,
      ← hY ⟨g, hg⟩ ⟨4 + a.val, hb⟩ e s hs, shapeCast_self]
    refine (shapeCast_dropUnit_apply ![128, 128] _ c2 _).trans (congrArg Y (funext fun d => Fin.ext ?_))
    match d with
    | ⟨0, _⟩ => rfl
    | ⟨1, _⟩ =>
      show 0 + 1 * (4 + a.val) = 4 + a.val
      omega
    | ⟨2, _⟩ =>
      show 0 + 1 * e.val = e.val
      omega
  · have hk : a.val - 124 < 4 := by omega
    have hak : a.val = 124 + (a.val - 124) := by omega
    have hR : s.val * 4 + (a.val - 124) < 512 := by omega
    rw [load_new v _ _ h1 h5 a e ⟨a.val - 124, hk⟩ hak,
      next_new new old s a e ⟨a.val - 124, hk⟩ ⟨s.val * 4 + (a.val - 124), hR⟩ hak rfl,
      ← hX ⟨o + (a.val - 124), by omega⟩ e ⟨s.val * 4 + (a.val - 124), hR⟩
        (show s.val * 4 + (a.val - 124) = t * 32 + (o + (a.val - 124)) by omega)]
    refine (congrFun (shapeCast_self (s := S4x128) _ c1) _).trans (congrArg X (funext fun d => Fin.ext ?_))
    match d with
    | ⟨0, _⟩ =>
      show o + 1 * (a.val - 124) = o + (a.val - 124)
      omega
    | ⟨1, _⟩ =>
      show 0 + 1 * e.val = e.val
      omega

end Sequence

/-! ## The arrays after the run -/

/-- A grid point's block of new keys. -/
theorem new_keys (c : Dev nD) (t : Fin cfg0.N) (r : Fin 32) (e : Fin 128) (R : Fin 512) (hR : R.val = t.val * 32 + r.val) :
    iblk m c 6 t (ix2 r e) = m ((c : Thread nD τ).loc main_arg6) (ix2 R e) := by
  blk_point [iblk, V, idx t]

/-- A grid point's block of new values. -/
theorem new_values (c : Dev nD) (t : Fin cfg0.N) (r : Fin 32) (e : Fin 128) (R : Fin 512) (hR : R.val = t.val * 32 + r.val) :
    iblk m c 7 t (ix2 r e) = m ((c : Thread nD τ).loc main_arg7) (ix2 R e) := by
  blk_point [iblk, V, idx t]

/-- A grid point's block of cached keys. -/
theorem old_keys (c : Dev nD) (t : Fin cfg0.N) (g : Fin 8) (a e s : Fin 128) (hs : s.val = t.val * 8 + g.val) :
    iblk m c 8 t (ix3 g a e) = m ((c : Thread nD τ).loc main_arg8) (ix3 s a e) := by
  blk_point [iblk, V, idx t]

/-- A grid point's block of cached values. -/
theorem old_values (c : Dev nD) (t : Fin cfg0.N) (g : Fin 8) (a e s : Fin 128) (hs : s.val = t.val * 8 + g.val) :
    iblk m c 9 t (ix3 g a e) = m ((c : Thread nD τ).loc main_arg9) (ix3 s a e) := by
  blk_point [iblk, V, idx t]

/-- The key windows after the run are the reference's. -/
theorem final14 (c : Dev nD) : (dats m 0 c).arrAt 14 (cfgs 0).N
    = val_main_v4 (F := Ideal) (m ((c : Thread nD τ).loc main_arg6)) (m ((c : Thread nD τ).loc main_arg8)) := by
  refine (dats m 0 c).arrAt_eq_of_covers 14 _ (by decide +kernel) fun t _ y => ?_
  blk_simp
  rw [after0_14]
  frame_out
  have hz : IsRow t.val y (((View.whole main_v0_2).slice (win0_14.rect t)).emb y) := by
    have ht : t.val < 16 := t.isLt
    have y0 : (y 0).val < 8 := (y 0).isLt
    have hy : ((View.whole main_v0_2).slice (win0_14.rect t)).emb y
        = ix3 (⟨t.val * 8 + (y 0).val, by omega⟩ : Fin 128) (y 1) (y 2) := by
      blk_ext [idx t]
    rw [hy]
    exact ⟨rfl, rfl, rfl⟩
  have piece := fun L => window_piece (m ((c : Thread nD τ).loc main_arg6)) (m ((c : Thread nD τ).loc main_arg8)) t.val _ _
    (new_keys m c t) (old_keys m c t) (View.whole cc0_scratch0) L
  generalize ((View.whole main_v0_2).slice (win0_14.rect t)).emb y = z at hz ⊢
  refine stores _ _ _ _ _ _ _ _ y _ ?_ ?_ ?_ ?_ ?_ ?_ ?_ ?_
  all_goals exact piece _ _ _ rfl y z hz _ _ _ _ _ _ _ _ _

/-- The value windows after the run are the reference's. -/
theorem final15 (c : Dev nD) : (dats m 0 c).arrAt 15 (cfgs 0).N
    = val_main_v5 (F := Ideal) (m ((c : Thread nD τ).loc main_arg7)) (m ((c : Thread nD τ).loc main_arg9)) := by
  show _ = val_main_v4 (F := Ideal) (m ((c : Thread nD τ).loc main_arg7)) (m ((c : Thread nD τ).loc main_arg9))
  refine (dats m 0 c).arrAt_eq_of_covers 15 _ (by decide +kernel) fun t _ y => ?_
  blk_simp
  rw [after0_15]
  frame_out
  have hz : IsRow t.val y (((View.whole main_v0_3).slice (win0_15.rect t)).emb y) := by
    have ht : t.val < 16 := t.isLt
    have y0 : (y 0).val < 8 := (y 0).isLt
    have hy : ((View.whole main_v0_3).slice (win0_15.rect t)).emb y
        = ix3 (⟨t.val * 8 + (y 0).val, by omega⟩ : Fin 128) (y 1) (y 2) := by
      blk_ext [idx t]
    rw [hy]
    exact ⟨rfl, rfl, rfl⟩
  have piece := fun L => window_piece (m ((c : Thread nD τ).loc main_arg7)) (m ((c : Thread nD τ).loc main_arg9)) t.val _ _
    (new_values m c t) (old_values m c t) (View.whole cc0_scratch1) L
  generalize ((View.whole main_v0_3).slice (win0_15.rect t)).emb y = z at hz ⊢
  refine stores _ _ _ _ _ _ _ _ y _ ?_ ?_ ?_ ?_ ?_ ?_ ?_ ?_
  all_goals exact piece _ _ _ rfl y z hz _ _ _ _ _ _ _ _ _

end Cert.Kernel3Ideal.SampleWindow
-- ==== Proof.SampleClaims.lean ====
module

public import Idealize.ShloMosaic.Init
public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.SampleWindow
public import Idealize.ShloMosaic.Adequacy
public import Idealize.ShloMosaic.Lib.Claim
public import Idealize.ShloMosaic.Lib.Quiescent
import all Idealize.ShloMosaic.Lib.Claim

/-! The claims about the call `sample_attn` (`Kernel3`): the three frames and the equality with its reference. -/

@[expose] public section

set_option maxRecDepth 16384

noncomputable section

namespace Cert.SampleClaims

open Idealize.ShloMosaic Idealize.SL.Sem
open Cert.Kernel3Ideal.SampleWindow Cert.Reference3Ideal.Read

/-- The call runs at the hardware's floats, keeps its arguments and ends with every counter at zero. -/
theorem frame_bits : Cert.quiescent_Kernel3 := fun m ρ _ => Cert.Kernel3.Gen.frame m ρ

/-- The same of its idealization. -/
theorem frame_ideal : Cert.quiescent_Kernel3Ideal := fun m ρ _ => Cert.Kernel3Ideal.Gen.frame m ρ

/-- The reference of the call runs and keeps its arguments; it has no semaphore, so every counter is zero. -/
theorem frame_reference : Cert.quiescent_Reference3Ideal := by
  intro m ρ _
  hlo_run
  · exact fun _ => by simp
  · exact sem_eq_zero_of_no_sems (sig := Cert.Reference3Ideal.sig) rfl _

/-- **The next windows.** At the extended reals the call's key and value windows are those of the plain mathematics. -/
theorem equal : Cert.algebraic_Kernel3Ideal_Reference3Ideal := by
  pair_intro
  · run_from Cert.Kernel3Ideal.Value.run_blocks m g
  · run_from Cert.Reference3Ideal.Value.run m' g'
    · obtain ⟨-, -, -, -, -, -, e6, -, e8, -⟩ := hagree c
      exact (val_main_v4_eq _ _).trans ((congrArg₂ (val_main_v4 (F := Ideal)) e6 e8).trans (final14 m c).symm)
    · obtain ⟨-, -, -, -, -, -, -, e7, -, e9, -⟩ := hagree c
      exact (val_main_v5_eq _ _).trans ((congrArg₂ (val_main_v5 (F := Ideal)) e7 e9).trans (final15 m c).symm)

end Cert.SampleClaims

end
-- ==== Proof.PromptFrames.lean ====
module

public import Idealize.ShloMosaic.Init
public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Lib.Claim
public import Idealize.ShloMosaic.Lib.Quiescent
import all Idealize.ShloMosaic.Lib.Claim

/-! The frames of the call `prompt_layer` (`Kernel`), of its idealization and of its reference. -/

@[expose] public section

set_option maxRecDepth 16384

noncomputable section

namespace Cert.PromptFrames

open Idealize.ShloMosaic Idealize.SL.Sem

/-- The call runs at the hardware's floats, keeps its arguments and ends with every counter at zero. -/
theorem frame_bits : Cert.quiescent_Kernel := fun m ρ _ => Cert.Kernel.Gen.frame m ρ

/-- The same of its idealization. -/
theorem frame_ideal : Cert.quiescent_KernelIdeal := fun m ρ _ => Cert.KernelIdeal.Gen.frame m ρ

/-- The reference of the call runs and keeps its arguments; it has no semaphore, so every counter is zero. -/
theorem frame_reference : Cert.quiescent_ReferenceIdeal := by
  intro m ρ _
  run_from Cert.ReferenceIdeal.Value.run m ρ
  · exact fun _ => by simp
  · exact sem_eq_zero_of_no_sems (sig := Cert.ReferenceIdeal.sig) rfl _

end Cert.PromptFrames

end
-- ==== Proof.Proj.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The layer's projections

Grid point `t` of the call holds the 256 token rows `256·(t mod 32) …` of batch entry `t / 32`. The lemmas here read what
the body computes at row `r` of the point from the input projection alone (the normalized row, query, key, value, the
chunk gate's two halves, the memory query) as the reference's array at batch entry `b` and token `s`.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ)

/-- Every window's block index at a grid point. -/
theorem idx : ∀ t : Fin cfg0.N, win0_0.index t = ![0] ∧ win0_1.index t = ![t.val, 0] ∧ win0_2.index t = ![t.val / 32, 0, 0]
    ∧ win0_3.index t = ![t.val / 32, 0, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0, 0]
    ∧ win0_11.index t = ![0, 0] ∧ win0_12.index t = ![0, 0] ∧ win0_13.index t = ![t.val, 0] ∧ win0_14.index t = ![t.val, 0]
    ∧ win0_15.index t = ![t.val / 32, 0, 0] ∧ win0_16.index t = ![t.val / 32, 0, 0] :=
  (by decide +kernel : ∀ t : Fin grid0.N, _)

variable (c : Dev nD) (t : Fin cfg0.N) (b : Fin 2) (s : Fin 8192) (r : Fin 256)
variable (hb : b.val = t.val / 32) (hs : s.val = t.val % 32 * 256 + r.val)

include hb hs

/-- The normalized token row. -/
theorem xn_at (j : Fin 1024) :
    k0_pay5 (F := Ideal) (iblk m c 1 t) (iblk m c 4 t) (ix2 r j)
      = val_main_v13 (F := Ideal) (m ((c.tc : Thread nD τ).loc main_arg0)) (m ((c.tc : Thread nD τ).loc main_arg3)) (ix3 b s j) := by
  pointwise [k0_pay5, k0_pay4, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

end Cert.KernelIdeal.Layer

end
-- ==== Proof.ProjA.lean ====
module

public import proofs.«01_k».proof.Proof.Proj
public import Idealize.ShloMosaic.Lib.Pipeline.ValueKit
public import Idealize.ShloMosaic.Lib.Pointwise

/-!
# The query, key and value projections of a tile
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ)
variable (c : Dev nD) (t : Fin cfg0.N) (b : Fin 2) (s : Fin 8192) (r : Fin 256)
variable (hb : b.val = t.val / 32) (hs : s.val = t.val % 32 * 256 + r.val)

include hb hs

/-- The query columns. -/
theorem q_at (j : Fin 512) :
    k0_pay6 (F := Ideal) (iblk m c 1 t) (iblk m c 4 t) (View.ld (iblk m c 5 t) (Rect.unit ![0, 0] ![1024, 512] inb_S1024x5376_S1024x512_0_0)) (ix2 r j)
      = val_main_v16 (F := Ideal) (m ((c.tc : Thread nD τ).loc main_arg0)) (m ((c.tc : Thread nD τ).loc main_arg3)) (m ((c.tc : Thread nD τ).loc main_arg4)) (ix3 b s j) := by
  pointwise [k0_pay6, val_main_v16, val_main_v15, val_main_v14]
  simp only [xn_at m c t b s r hb hs]
  blk_point [iblk, V, idx t]

/-- The key columns. -/
theorem k_at (j : Fin 128) :
    k0_pay7 (F := Ideal) (iblk m c 1 t) (iblk m c 4 t) (View.ld (iblk m c 5 t) (Rect.unit ![0, 512] ![1024, 128] inb_S1024x5376_S1024x128_0_512)) (ix2 r j)
      = val_main_v17 (F := Ideal) (m ((c.tc : Thread nD τ).loc main_arg0)) (m ((c.tc : Thread nD τ).loc main_arg3)) (m ((c.tc : Thread nD τ).loc main_arg4)) (ix3 b s j) := by
  pointwise [k0_pay7, val_main_v17, val_main_v15, val_main_v14]
  simp only [xn_at m c t b s r hb hs]
  blk_point [iblk, V, idx t]

/-- The value columns. -/
theorem v_at (j : Fin 128) :
    k0_pay8 (F := Ideal) (k0_pay5 (iblk m c 1 t) (iblk m c 4 t)) (View.ld (iblk m c 5 t) (Rect.unit ![0, 640] ![1024, 128] inb_S1024x5376_S1024x128_0_640)) (ix2 r j)
      = val_main_v18 (F := Ideal) (m ((c.tc : Thread nD τ).loc main_arg0)) (m ((c.tc : Thread nD τ).loc main_arg3)) (m ((c.tc : Thread nD τ).loc main_arg4)) (ix3 b s j) := by
  pointwise [k0_pay8, val_main_v18, val_main_v15, val_main_v14]
  simp only [xn_at m c t b s r hb hs]
  blk_point [iblk, V, idx t]

end Cert.KernelIdeal.Layer

end
-- ==== Proof.Carry.lean ====
module

public import proofs.«01_k».proof.Proof.Gen.KernelIdeal.Value
public import proofs.«01_k».proof.Proof.Gen.ReferenceIdeal.Read
public import proofs.«01_k».proof.Proof.ProjA
public import Idealize.ShloMosaic.Lib.Pipeline.ValueKit
public import Idealize.ShloMosaic.Lib.Pointwise

/-!
# What a grid point leaves for the next

At the end of a grid point the two carried buffers hold the keys and values of the tile's last 128 tokens.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ) (c : Dev nD) (t : Fin cfg0.N) (b : Fin 2) (s : Fin 8192) (a : Fin 128)
  (hb : b.val = t.val / 32) (hs : s.val = t.val % 32 * 256 + (128 + a.val))

include hb hs

/-- The carried keys. -/
theorem carry_k (j : Fin 128) : ((outsAt0 m c t.val t.isLt).2.2.2.2.1 : FVec Ideal S128x128 .bf16) (ix2 a j)
    = val_main_v17 (F := Ideal) (m ((c.tc : Thread nD τ).loc main_arg0)) (m ((c.tc : Thread nD τ).loc main_arg3))
        (m ((c.tc : Thread nD τ).loc main_arg4)) (ix3 b s j) := by
  have e := k_at m c t b s ⟨128 + a.val, by omega⟩ hb hs j
  by_cases h : t.val % 32 = 0
  · rw [outsAt0_A m c t h]
    frame_out
    unfold k0_pay61 k0_pay11
    generalize k0_pay7 (F := Ideal) (iblk m c 1 t) _ _ = K at e ⊢
    pointwise
    exact e
  · rw [outsAt0_B m c t h]
    frame_out
    unfold k0_pay61 k0_pay11
    generalize k0_pay7 (F := Ideal) (iblk m c 1 t) _ _ = K at e ⊢
    pointwise
    exact e

/-- The carried values. -/
theorem carry_v (j : Fin 128) : ((outsAt0 m c t.val t.isLt).2.2.2.2.2 : FVec Ideal S128x128 .bf16) (ix2 a j)
    = val_main_v18 (F := Ideal) (m ((c.tc : Thread nD τ).loc main_arg0)) (m ((c.tc : Thread nD τ).loc main_arg3))
        (m ((c.tc : Thread nD τ).loc main_arg4)) (ix3 b s j) := by
  have e := v_at m c t b s ⟨128 + a.val, by omega⟩ hb hs j
  by_cases h : t.val % 32 = 0
  · rw [outsAt0_A m c t h]
    frame_out
    unfold k0_pay62 k0_pay12
    generalize k0_pay8 (F := Ideal) (k0_pay5 (iblk m c 1 t) _) _ = K at e ⊢
    pointwise
    exact e
  · rw [outsAt0_B m c t h]
    frame_out
    unfold k0_pay62 k0_pay12
    generalize k0_pay8 (F := Ideal) (k0_pay5 (iblk m c 1 t) _) _ = K at e ⊢
    pointwise
    exact e

end Cert.KernelIdeal.Layer

end
-- ==== Proof.Layout.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The reference's reshapes, read at an index

Each theorem says which cell of the array before a reshape of the reference is the cell of the array after it, and where
the banded keys and values of a block come from.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x1 x2 : FVec Ideal S2x256x512 .bf16) (x3 : FVec Ideal S1x1024 .f32)
  (x4 : FVec Ideal S1x1024x5376 .f32) (x6 : FVec Ideal S1x8 .f32) (x7 : FVec Ideal S1x512 .f32)
  (x8 : FVec Ideal S1x4x128x128 .f32) (x9 : FVec Ideal S1x4x128 .f32)

/-- The merged sliding-window output is the heads' outputs side by side. -/
theorem swa_out (b : Fin 2) (s : Fin 8192) (j : Fin 512) (n : Fin 64) (i : Fin 128) (kv : Fin 2) (g : Fin 4) (e : Fin 64)
    (hs : s.val = n.val * 128 + i.val) (hj : j.val = (kv.val * 4 + g.val) * 64 + e.val) :
    val_main_v139 (F := Ideal) x0 x3 x4 x6 (ix3 b s j) = val_main_v138 (F := Ideal) x0 x3 x4 x6 (ix6 b n i kv g e) := by
  unfold val_main_v139
  generalize val_main_v138 (F := Ideal) x0 x3 x4 x6 = y
  refine shapeCast_apply y _ _ _ ?_
  rewrite [Shape.rowMajor_val_six, Shape.rowMajor_val_three]
  show ((((b.val * 64 + n.val) * 128 + i.val) * 2 + kv.val) * 4 + g.val) * 64 + e.val = (b.val * 8192 + s.val) * 512 + j.val
  omega

/-- A head's queries are the head's columns of the query projection. -/
theorem swa_q (b : Fin 2) (s : Fin 8192) (j : Fin 512) (n : Fin 64) (i : Fin 128) (kv : Fin 2) (g : Fin 4) (e : Fin 64)
    (hs : s.val = n.val * 128 + i.val) (hj : j.val = (kv.val * 4 + g.val) * 64 + e.val) :
    val_main_v51 (F := Ideal) x0 x3 x4 (ix6 b n i kv g e) = val_main_v16 (F := Ideal) x0 x3 x4 (ix3 b s j) := by
  unfold val_main_v51
  refine (shapeCast_apply (val_main_v47 (F := Ideal) x0 x3 x4) _ _ (ix5 b s kv g e) ?_).trans ?_
  · rewrite [Shape.rowMajor_val_six, Shape.rowMajor_val_five]
    show (((b.val * 8192 + s.val) * 2 + kv.val) * 4 + g.val) * 64 + e.val
      = ((((b.val * 64 + n.val) * 128 + i.val) * 2 + kv.val) * 4 + g.val) * 64 + e.val
    omega
  unfold val_main_v47
  refine shapeCast_apply (val_main_v16 (F := Ideal) x0 x3 x4) _ _ _ ?_
  rewrite [Shape.rowMajor_val_three, Shape.rowMajor_val_five]
  show (b.val * 8192 + s.val) * 512 + j.val = (((b.val * 8192 + s.val) * 2 + kv.val) * 4 + g.val) * 64 + e.val
  omega

/-- The merged chunk output is the groups' outputs side by side. -/
theorem chunk_out (b : Fin 2) (s : Fin 8192) (j : Fin 512) (n : Fin 64) (i : Fin 128) (g : Fin 4) (e : Fin 128)
    (hs : s.val = n.val * 128 + i.val) (hj : j.val = g.val * 128 + e.val) :
    val_main_v152 (F := Ideal) x0 x3 x4 x7 x8 x9 (ix3 b s j)
      = val_main_v151 (F := Ideal) x0 x3 x4 x7 x8 x9 (ix5 b n i g e) := by
  unfold val_main_v152
  generalize val_main_v151 (F := Ideal) x0 x3 x4 x7 x8 x9 = y
  refine shapeCast_apply y _ _ _ ?_
  rewrite [Shape.rowMajor_val_five, Shape.rowMajor_val_three]
  show (((b.val * 64 + n.val) * 128 + i.val) * 4 + g.val) * 128 + e.val = (b.val * 8192 + s.val) * 512 + j.val
  omega

/-- A group's gates are the group's columns of the gate projection. -/
theorem chunk_u (b : Fin 2) (s : Fin 8192) (j : Fin 512) (n : Fin 64) (i : Fin 128) (g : Fin 4) (e : Fin 128)
    (hs : s.val = n.val * 128 + i.val) (hj : j.val = g.val * 128 + e.val) :
    val_main_v140 (F := Ideal) x0 x3 x4 (ix5 b n i g e) = val_main_v31 (F := Ideal) x0 x3 x4 (ix3 b s j) := by
  unfold val_main_v140
  generalize val_main_v31 (F := Ideal) x0 x3 x4 = y
  refine shapeCast_apply y _ _ _ ?_
  rewrite [Shape.rowMajor_val_five, Shape.rowMajor_val_three]
  show (b.val * 8192 + s.val) * 512 + j.val = (((b.val * 64 + n.val) * 128 + i.val) * 4 + g.val) * 128 + e.val
  omega

/-- A group's values are the group's columns of the normalised value projection. -/
theorem chunk_v (b : Fin 2) (s : Fin 8192) (j : Fin 512) (n : Fin 64) (i : Fin 128) (g : Fin 4) (e : Fin 128)
    (hs : s.val = n.val * 128 + i.val) (hj : j.val = g.val * 128 + e.val) :
    val_main_v141 (F := Ideal) x0 x3 x4 x7 (ix5 b n i g e) = val_main_v46 (F := Ideal) x0 x3 x4 x7 (ix3 b s j) := by
  unfold val_main_v141
  generalize val_main_v46 (F := Ideal) x0 x3 x4 x7 = y
  refine shapeCast_apply y _ _ _ ?_
  rewrite [Shape.rowMajor_val_five, Shape.rowMajor_val_three]
  show (b.val * 8192 + s.val) * 512 + j.val = (((b.val * 64 + n.val) * 128 + i.val) * 4 + g.val) * 128 + e.val
  omega

/-- The mixing weights without their leading axis of one. -/
theorem chunk_w (g : Fin 4) (i a : Fin 128) : val_main_v142 (F := Ideal) x8 (ix3 g i a) = x8 (ix4 0 g i a) := by
  unfold val_main_v142
  refine shapeCast_apply x8 _ _ _ ?_
  rewrite [Shape.rowMajor_val_four, Shape.rowMajor_val_three]
  show ((0 * 4 + g.val) * 128 + i.val) * 128 + a.val = (g.val * 128 + i.val) * 128 + a.val
  omega

/-- The mixing biases without their leading axis of one. -/
theorem chunk_b (g : Fin 4) (i : Fin 128) : val_main_v143 (F := Ideal) x9 (ix2 g i) = x9 (ix3 0 g i) := by
  unfold val_main_v143
  refine shapeCast_apply x9 _ _ _ ?_
  rewrite [Shape.rowMajor_val_three, Shape.rowMajor_val_two]
  show (0 * 4 + g.val) * 128 + i.val = g.val * 128 + i.val
  omega

/-- The merged memory output is the heads' outputs side by side. -/
theorem mem_out (b : Fin 2) (s : Fin 8192) (j : Fin 512) (h : Fin 4) (e : Fin 128) (hj : j.val = h.val * 128 + e.val) :
    val_main_v174 (F := Ideal) x0 x1 x2 x3 x4 (ix3 b s j) = val_main_v173 (F := Ideal) x0 x1 x2 x3 x4 (ix4 b s h e) := by
  unfold val_main_v174
  generalize val_main_v173 (F := Ideal) x0 x1 x2 x3 x4 = y
  refine shapeCast_apply y _ _ _ ?_
  rewrite [Shape.rowMajor_val_four, Shape.rowMajor_val_three]
  show ((b.val * 8192 + s.val) * 4 + h.val) * 128 + e.val = (b.val * 8192 + s.val) * 512 + j.val
  omega

/-- A memory head's queries are the head's columns of the memory query projection. -/
theorem mem_q (b : Fin 2) (s : Fin 8192) (j : Fin 512) (h : Fin 4) (e : Fin 128) (hj : j.val = h.val * 128 + e.val) :
    val_main_v153 (F := Ideal) x0 x3 x4 (ix4 b s h e) = val_main_v22 (F := Ideal) x0 x3 x4 (ix3 b s j) := by
  unfold val_main_v153
  generalize val_main_v22 (F := Ideal) x0 x3 x4 = y
  refine shapeCast_apply y _ _ _ ?_
  rewrite [Shape.rowMajor_val_four, Shape.rowMajor_val_three]
  show (b.val * 8192 + s.val) * 512 + j.val = ((b.val * 8192 + s.val) * 4 + h.val) * 128 + e.val
  omega

/-- A memory head's keys are the head's columns of the memory keys. -/
theorem mem_k (b : Fin 2) (a : Fin 256) (j : Fin 512) (h : Fin 4) (e : Fin 128) (hj : j.val = h.val * 128 + e.val) :
    val_main_v155 (F := Ideal) x1 (ix4 b a h e) = x1 (ix3 b a j) := by
  unfold val_main_v155
  refine (shapeCast_apply (val_main_v154 (F := Ideal) x1) _ _ (ix3 b a j) ?_).trans rfl
  rewrite [Shape.rowMajor_val_four, Shape.rowMajor_val_three]
  show (b.val * 256 + a.val) * 512 + j.val = ((b.val * 256 + a.val) * 4 + h.val) * 128 + e.val
  omega

/-- A memory head's values are the head's columns of the memory values. -/
theorem mem_v (b : Fin 2) (a : Fin 256) (j : Fin 512) (h : Fin 4) (e : Fin 128) (hj : j.val = h.val * 128 + e.val) :
    val_main_v157 (F := Ideal) x2 (ix4 b a h e) = x2 (ix3 b a j) := by
  unfold val_main_v157
  refine (shapeCast_apply (val_main_v156 (F := Ideal) x2) _ _ (ix3 b a j) ?_).trans rfl
  rewrite [Shape.rowMajor_val_four, Shape.rowMajor_val_three]
  show (b.val * 256 + a.val) * 512 + j.val = ((b.val * 256 + a.val) * 4 + h.val) * 128 + e.val
  omega

/-- A head's sink. -/
theorem sink_at (kv : Fin 2) (g : Fin 4) (h : Fin 8) (hh : h.val = kv.val * 4 + g.val) :
    val_main_v118 (F := Ideal) x6 (ix2 kv g) = x6 (ix2 0 h) := by
  rw [val_main_v118_apply, val_main_v50_apply]
  refine congrArg x6 (funext fun a => Fin.ext ?_)
  match a with
  | ⟨0, _⟩ => rfl
  | ⟨1, _⟩ =>
    show (kv.val * 4 + g.val) % 8 = h.val
    omega

/-- A head's slope. -/
def slopes (h : Fin 8) : Ideal .f32 :=
  Ideal.ofBits .f32 (![0x3F000000#32, 0x3E800000#32, 0x3E000000#32, 0x3D800000#32, 0x3D000000#32, 0x3C800000#32,
    0x3C000000#32, 0x3B800000#32] h)

/-- The reference's slopes are the eight powers of two. -/
theorem slope_at (kv : Fin 2) (g : Fin 4) (h : Fin 8) (hh : h.val = kv.val * 4 + g.val) :
    slopes h = val_main_v106 (F := Ideal) (ix2 kv g) := by
  rw [val_main_v106_apply]
  have e : idx_main_v106 (ix2 kv g) = ix1 h := funext fun a => Fin.ext (by match a with | ⟨0, _⟩ => exact hh.symm)
  rw [e]
  fin_cases h <;> rfl

end Cert.KernelIdeal.Layer

end
-- ==== Proof.Band.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The banded keys and values, and the masks

Block `n`'s 256 keys are the 128 rows before the block and the block's own; the rows before the first block are zero.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x3 : FVec Ideal S1x1024 .f32) (x4 : FVec Ideal S1x1024x5376 .f32)

/-- A key inside the sequence. -/
theorem band_k (b : Fin 2) (n : Fin 64) (a : Fin 256) (kv : Fin 2) (e : Fin 64) (s : Fin 8192) (j : Fin 128)
    (hs : s.val + 128 = n.val * 128 + a.val) (hj : j.val = kv.val * 64 + e.val) :
    val_main_v56 (F := Ideal) x0 x3 x4 (ix5 b n a kv e) = val_main_v17 (F := Ideal) x0 x3 x4 (ix3 b s j) := by
  pointwise [val_main_v56, val_main_v55, val_main_v54, val_main_v53, val_main_v52, val_main_v48]
  rcases lt_or_ge a.val 128 with ha | ha
  · rw [dif_pos ha, dif_pos (by omega)]
    exact congrArg (val_main_v17 (F := Ideal) x0 x3 x4)
      (congrArg₂ (ix3 b) (Fin.ext (show _ - 128 = s.val by omega)) (Fin.ext hj.symm))
  · rw [dif_neg (by omega), dif_pos (by omega)]
    exact congrArg (val_main_v17 (F := Ideal) x0 x3 x4)
      (congrArg₂ (ix3 b) (Fin.ext (show _ - 128 = s.val by omega)) (Fin.ext hj.symm))

/-- A value inside the sequence. -/
theorem band_v (b : Fin 2) (n : Fin 64) (a : Fin 256) (kv : Fin 2) (e : Fin 64) (s : Fin 8192) (j : Fin 128)
    (hs : s.val + 128 = n.val * 128 + a.val) (hj : j.val = kv.val * 64 + e.val) :
    val_main_v61 (F := Ideal) x0 x3 x4 (ix5 b n a kv e) = val_main_v18 (F := Ideal) x0 x3 x4 (ix3 b s j) := by
  pointwise [val_main_v61, val_main_v60, val_main_v59, val_main_v58, val_main_v57, val_main_v49]
  rcases lt_or_ge a.val 128 with ha | ha
  · rw [dif_pos ha, dif_pos (by omega)]
    exact congrArg (val_main_v18 (F := Ideal) x0 x3 x4)
      (congrArg₂ (ix3 b) (Fin.ext (show _ - 128 = s.val by omega)) (Fin.ext hj.symm))
  · rw [dif_neg (by omega), dif_pos (by omega)]
    exact congrArg (val_main_v18 (F := Ideal) x0 x3 x4)
      (congrArg₂ (ix3 b) (Fin.ext (show _ - 128 = s.val by omega)) (Fin.ext hj.symm))

/-- The zero word is the number zero. -/
theorem sitofp_zero : (FloatOps.sitofp .f32 0#32 : Ideal .f32) = (0 : EReal) := by
  show ((((0#32 : BitVec 32).toInt : ℝ)) : EReal) = 0
  norm_num

/-- A key before the sequence. -/
theorem band_k_zero (b : Fin 2) (n : Fin 64) (a : Fin 256) (kv : Fin 2) (e : Fin 64) (hs : n.val * 128 + a.val < 128) :
    val_main_v56 (F := Ideal) x0 x3 x4 (ix5 b n a kv e) = (0 : EReal) := by
  pointwise [val_main_v56, val_main_v55, val_main_v54, val_main_v53, val_main_v52, val_main_v48, val_main_call0_v0, val_main_c]
  rw [dif_pos (by omega : a.val < 128), dif_neg (by omega)]
  exact sitofp_zero

/-- A value before the sequence. -/
theorem band_v_zero (b : Fin 2) (n : Fin 64) (a : Fin 256) (kv : Fin 2) (e : Fin 64) (hs : n.val * 128 + a.val < 128) :
    val_main_v61 (F := Ideal) x0 x3 x4 (ix5 b n a kv e) = (0 : EReal) := by
  pointwise [val_main_v61, val_main_v60, val_main_v59, val_main_v58, val_main_v57, val_main_v49, val_main_call1_v0, val_main_c_7]
  rw [dif_pos (by omega : a.val < 128), dif_neg (by omega)]
  exact sitofp_zero

/-- One is the unit of `and` on one bit. -/
theorem and_one_word : ∀ x : BitVec 1, IntOp.andi x 1#1 = x := by decide +kernel

/-- The reference's test of a key's position, block by block. -/
theorem pos_word : ∀ (n : Fin 64) (a : Fin 256), IntOp.cmpi CmpIPredicate.sge (IntOp.addi (IntOp.subi
    (IntOp.muli (BitVec.ofNat 32 n.val) 128#32) 128#32) (BitVec.ofNat 32 a.val)) 0#32
      = if n.val = 0 ∧ a.val < 128 then 0#1 else 1#1 := by decide +kernel

/-- The kernel's test of a key's position in a tile's first block, where the flag marks the sequence's first block. -/
theorem flag_word : ∀ (f : BitVec 1) (a : Fin 256), IntOp.cmpi CmpIPredicate.sge (BitVec.ofNat 32 a.val)
    (Scalar.select f 128#32 0#32) = if f = 1#1 ∧ a.val < 128 then 0#1 else 1#1 := by decide +kernel

/-- Past the first block of a sequence every key's position is inside it: only the distance masks. -/
theorem valid_rest (n : Fin 64) (i : Fin 128) (a : Fin 256) (hn : n.val ≠ 0) :
    k0_pay14 (ix2 i a) = val_main_v96 (F := Ideal) (ix3 n i a) := by
  pointwise [k0_pay14, k0_pay13, val_main_v96, val_main_v95, val_main_v94, val_main_v93, val_main_v92, val_main_v91,
    val_main_v90, val_main_v89, val_main_v88, val_main_v87, val_main_v86, val_main_v85, val_main_v84, val_main_v83,
    val_main_v82, val_main_v81, val_main_v80, val_main_v79, val_main_v78, val_main_v77, val_main_v76, val_main_v75,
    val_main_v74, val_main_v73, val_main_v72, val_main_v71, val_main_v70, val_main_v69, val_main_v68, val_main_v67,
    val_main_v66, val_main_c_9, val_main_c_10, val_main_c_11, val_main_c_12, val_main_c_13, val_main_c_14]
  rw [pos_word, if_neg (fun h => hn h.1)]
  exact (and_one_word _).symm

/-- In a tile's first block the flag also masks the keys before the sequence. -/
theorem valid_block (n : Fin 64) (i : Fin 128) (a : Fin 256) (flag : BitVec 1) (hf : flag = if n.val = 0 then 1#1 else 0#1) :
    k0_pay16 flag (ix2 i a) = val_main_v96 (F := Ideal) (ix3 n i a) := by
  pointwise [k0_pay16, k0_pay14, k0_pay13, val_main_v96, val_main_v95, val_main_v94, val_main_v93, val_main_v92, val_main_v91,
    val_main_v90, val_main_v89, val_main_v88, val_main_v87, val_main_v86, val_main_v85, val_main_v84, val_main_v83,
    val_main_v82, val_main_v81, val_main_v80, val_main_v79, val_main_v78, val_main_v77, val_main_v76, val_main_v75,
    val_main_v74, val_main_v73, val_main_v72, val_main_v71, val_main_v70, val_main_v69, val_main_v68, val_main_v67,
    val_main_v66, val_main_c_9, val_main_c_10, val_main_c_11, val_main_c_12, val_main_c_13, val_main_c_14]
  rw [pos_word, flag_word, hf]
  by_cases hn : n.val = 0 <;> simp [hn]

end Cert.KernelIdeal.Layer

end
-- ==== Proof.HeadScore.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The scores of one attention head

The body's masked, biased score of a query and a key is the reference's, when the head's operands are.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x3 : FVec Ideal S1x1024 .f32) (x4 : FVec Ideal S1x1024x5376 .f32)
  (x6 : FVec Ideal S1x8 .f32)
variable (valid : IVec S128x256 1) (q : FVec Ideal S128x64 .bf16) (k v : FVec Ideal S256x64 .bf16) (slope sink : Ideal .f32)
variable (b : Fin 2) (n : Fin 64) (i : Fin 128) (kv : Fin 2) (g : Fin 4)

/-- The masked, biased score of a query and a key. -/
theorem score_at (hq : ∀ e : Fin 64, q (ix2 i e) = val_main_v51 (F := Ideal) x0 x3 x4 (ix6 b n i kv g e))
    (hk : ∀ (a : Fin 256) (e : Fin 64), k (ix2 a e) = val_main_v56 (F := Ideal) x0 x3 x4 (ix5 b n a kv e))
    (hm : ∀ a : Fin 256, valid (ix2 i a) = val_main_v96 (F := Ideal) (ix3 n i a))
    (hs : slope = val_main_v106 (F := Ideal) (ix2 kv g)) (a : Fin 256) :
    (select valid (subf (mulf (matmul dot_S128x64_S256x64_S128x256_1_1_0_0_n_n none q k (constant S128x256 .f32 0x00000000#32))
      (broadcast S128x256 (Scalar.ofBits .f32 0x3E000000#32))) (mulf (broadcast S128x256 slope) k0_pay15))
      (broadcast S128x256 (Scalar.ofBits .f32 0xF149F2CA#32)) : FVec Ideal S128x256 .f32) (ix2 i a)
      = val_main_v117 (F := Ideal) x0 x3 x4 (ix6 b n kv g i a) := by
  pointwise [val_main_v117, val_main_call2_v2, val_main_call2_v1, val_main_call2_v0, val_main_cst_23, val_main_v116,
    val_main_v115, val_main_v114, val_main_v113, val_main_v112, val_main_v111, val_main_v110, val_main_v109, val_main_v108,
    val_main_v107, val_main_v74, val_main_v73, val_main_v72, val_main_v71, val_main_v70, val_main_v69, val_main_v68,
    val_main_v67, val_main_v66, val_main_c_9, val_main_v65, val_main_v64, val_main_cst_8, val_main_v63, val_main_v62,
    k0_pay15, k0_pay13]
  simp only [hq, hk, hm, hs, id_eq, constant_apply]
  rw [Finset.sum_congr rfl fun e _ => mul_comm (val_main_v51 (F := Ideal) x0 x3 x4 (ix6 b n i kv g e)) _]
  rfl

end Cert.KernelIdeal.Layer

end
-- ==== Proof.HeadSoft.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The reference's softmax with a sink, read at an index
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x3 : FVec Ideal S1x1024 .f32) (x4 : FVec Ideal S1x1024x5376 .f32)
  (x6 : FVec Ideal S1x8 .f32)
variable (b : Fin 2) (n : Fin 64) (i : Fin 128) (kv : Fin 2) (g : Fin 4)

/-- The row's largest score, as a fold over the keys. -/
theorem max_at : val_main_v120 (F := Ideal) x0 x3 x4 (ix5 b n kv g i)
    = (Finset.univ : Finset (Fin 256)).fold max (Ideal.ofBits .f32 0xFF800000#32)
        fun a => val_main_v117 (F := Ideal) x0 x3 x4 (ix6 b n kv g i a) := by
  unfold val_main_v120
  generalize val_main_v117 (F := Ideal) x0 x3 x4 = z
  refine (Host.reduce_eq_fold_single (max : EReal → EReal → EReal) z _ _ (by decide) _ _).trans ?_
  refine congrArg (fun f => Finset.fold max _ f Finset.univ) (funext fun k => ?_)
  exact congrArg z (funext fun a => Fin.ext (by match a with | ⟨0, _⟩ => rfl | ⟨1, _⟩ => rfl | ⟨2, _⟩ => rfl | ⟨3, _⟩ => rfl | ⟨4, _⟩ => rfl | ⟨5, _⟩ => rfl))

/-- The row's sum of exponentials. -/
theorem sum_at : val_main_v128 (F := Ideal) x0 x3 x4 x6 (ix5 b n kv g i)
    = ∑ a : Fin 256, val_main_v127 (F := Ideal) x0 x3 x4 x6 (ix6 b n kv g i a) := by
  rw [val_main_v128_apply]
  generalize val_main_v127 (F := Ideal) x0 x3 x4 x6 = z
  refine (congrArg (· + _) Ideal.ofBits_zero_f32).trans ((zero_add _).trans (Finset.sum_congr rfl fun k _ => ?_))
  exact congrArg z (funext fun a => Fin.ext (by match a with | ⟨0, _⟩ => rfl | ⟨1, _⟩ => rfl | ⟨2, _⟩ => rfl | ⟨3, _⟩ => rfl | ⟨4, _⟩ => rfl | ⟨5, _⟩ => rfl))

/-- The row's shift: the larger of its largest score and the sink. -/
theorem shift_at : val_main_v124 (F := Ideal) x0 x3 x4 x6 (ix6 b n kv g i 0)
    = max (val_main_v120 (F := Ideal) x0 x3 x4 (ix5 b n kv g i)) (val_main_v118 (F := Ideal) x6 (ix2 kv g)) := by
  have e1 : idx_main_v121 (ix6 b n kv g i 0) = ix5 b n kv g i :=
    funext fun a => Fin.ext (by match a with | ⟨0, _⟩ => rfl | ⟨1, _⟩ => rfl | ⟨2, _⟩ => rfl | ⟨3, _⟩ => rfl | ⟨4, _⟩ => rfl)
  have e2 : idx_main_v119 (idx_main_v122 (idx_main_v123 (ix6 b n kv g i 0))) = ix2 kv g :=
    funext fun a => Fin.ext (by match a with | ⟨0, _⟩ => rfl | ⟨1, _⟩ => rfl)
  rw [val_main_v124_apply, val_main_v121_apply, val_main_v123_apply, val_main_v122_apply, val_main_v119_apply, e1, e2]
  rfl

/-- The exponential of a score less the row's shift. -/
theorem exp_at (a : Fin 256) : val_main_v127 (F := Ideal) x0 x3 x4 x6 (ix6 b n kv g i a)
    = Ideal.exp (val_main_v117 (F := Ideal) x0 x3 x4 (ix6 b n kv g i a)
        - val_main_v124 (F := Ideal) x0 x3 x4 x6 (ix6 b n kv g i 0)) := by
  have e1 : idx_main_v125 (ix6 b n kv g i a) = ix6 b n kv g i 0 :=
    funext fun a => Fin.ext (by match a with | ⟨0, _⟩ => rfl | ⟨1, _⟩ => rfl | ⟨2, _⟩ => rfl | ⟨3, _⟩ => rfl | ⟨4, _⟩ => rfl | ⟨5, _⟩ => rfl)
  rw [val_main_v127_apply, val_main_v126_apply, val_main_v125_apply, e1]
  rfl

/-- The attention output as a weighted sum. -/
theorem out_at (e : Fin 64) : val_main_v138 (F := Ideal) x0 x3 x4 x6 (ix6 b n i kv g e)
    = ∑ a : Fin 256, val_main_v61 (F := Ideal) x0 x3 x4 (ix5 b n a kv e) *
        Ideal.div (val_main_v127 (F := Ideal) x0 x3 x4 x6 (ix6 b n kv g i a))
          (val_main_v128 (F := Ideal) x0 x3 x4 x6 (ix5 b n kv g i) + Ideal.exp (val_main_v118 (F := Ideal) x6 (ix2 kv g)
            - val_main_v124 (F := Ideal) x0 x3 x4 x6 (ix6 b n kv g i 0))) := by
  rw [val_main_v138_apply, val_main_v137_apply]
  refine Finset.sum_congr rfl fun a _ => ?_
  have e1 : lidx_main_v137 (idx_main_v138 (ix6 b n i kv g e)) a = ix5 b n a kv e :=
    funext fun a => Fin.ext (by match a with | ⟨0, _⟩ => rfl | ⟨1, _⟩ => rfl | ⟨2, _⟩ => rfl | ⟨3, _⟩ => rfl | ⟨4, _⟩ => rfl)
  have e2 : ridx_main_v137 (idx_main_v138 (ix6 b n i kv g e)) a = ix6 b n kv g i a :=
    funext fun a => Fin.ext (by match a with | ⟨0, _⟩ => rfl | ⟨1, _⟩ => rfl | ⟨2, _⟩ => rfl | ⟨3, _⟩ => rfl | ⟨4, _⟩ => rfl | ⟨5, _⟩ => rfl)
  have e3 : idx_main_v135 (ix6 b n kv g i a) = ix6 b n kv g i 0 :=
    funext fun a => Fin.ext (by match a with | ⟨0, _⟩ => rfl | ⟨1, _⟩ => rfl | ⟨2, _⟩ => rfl | ⟨3, _⟩ => rfl | ⟨4, _⟩ => rfl | ⟨5, _⟩ => rfl)
  have e4 : idx_main_v129 (ix6 b n kv g i 0) = ix5 b n kv g i :=
    funext fun a => Fin.ext (by match a with | ⟨0, _⟩ => rfl | ⟨1, _⟩ => rfl | ⟨2, _⟩ => rfl | ⟨3, _⟩ => rfl | ⟨4, _⟩ => rfl)
  have e5 : idx_main_v119 (idx_main_v130 (idx_main_v131 (ix6 b n kv g i 0))) = ix2 kv g :=
    funext fun a => Fin.ext (by match a with | ⟨0, _⟩ => rfl | ⟨1, _⟩ => rfl)
  rw [e1, e2, val_main_v136_apply, val_main_v135_apply, e3, val_main_v134_apply, val_main_v129_apply, e4, val_main_v133_apply,
    val_main_v132_apply, val_main_v131_apply, val_main_v130_apply, val_main_v119_apply, e5]
  rfl

end Cert.KernelIdeal.Layer

end
-- ==== Proof.Head.lean ====
module

public import proofs.«01_k».proof.Proof.Gen.KernelIdeal.Value
public import proofs.«01_k».proof.Proof.Gen.ReferenceIdeal.Read
public import proofs.«01_k».proof.Proof.HeadScore
public import proofs.«01_k».proof.Proof.HeadSoft
public import Idealize.ShloMosaic.Lib.Pipeline.ValueKit
public import Idealize.ShloMosaic.Lib.Pointwise

/-!
# One attention head of the sliding window

`head` is the body's computation for one head and one block of 128 queries, over the head's own query, key and value
columns; the sixteen places of the body that spell it out are this function at different columns. `head_at` reads it as
the reference's attention at that batch entry, block and head.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The body's computation for one head: scores of 128 queries against 256 keys with a linear bias in the distance, the
masked softmax with a sink, and the weighted sum of the values. -/
def head {F : FTy → Type} [FloatOps F] (valid : IVec S128x256 1) (q : FVec F S128x64 .bf16) (k v : FVec F S256x64 .bf16)
    (slope sink : F .f32) : FVec F S128x64 .bf16 :=
  let sc : FVec F S128x256 .f32 := matmul dot_S128x64_S256x64_S128x256_1_1_0_0_n_n none q k (constant S128x256 .f32 0x00000000#32)
  let p : FVec F S128x256 .f32 := subf (mulf sc (broadcast S128x256 (Scalar.ofBits .f32 0x3E000000#32)))
    (mulf (broadcast S128x256 slope) k0_pay15)
  let z : FVec F S128x256 .f32 := select valid p (broadcast S128x256 (Scalar.ofBits .f32 0xF149F2CA#32))
  let mx : FVec F S128x1 .f32 := maximumf (shapeCast S128x1 (multiReduction .maximumf [1] S128 z 0xFF800000#32
    reduces_S128x256_S128 (.inl rfl) rfl) shapeCasts_S128_S128x1) (broadcast S128x1 sink)
  let e : FVec F S128x256 .f32 := exp (subf z (broadcastTo S128x256 mx broadcasts_S128x1_S128x256))
  let d : FVec F S128x1 .f32 := addf (shapeCast S128x1 (multiReduction .add [1] S128 e 0x00000000#32
    reduces_S128x256_S128 (.inl rfl) rfl) shapeCasts_S128_S128x1) (exp (subf (broadcast S128x1 sink) mx))
  truncf .bf16 (matmul dot_S128x256_S256x64_S128x64_1_0_0_1_n_n none
    (truncf .bf16 (divf e (broadcastTo S128x256 d broadcasts_S128x1_S128x256)) bitsLt_bf16_f32) v
    (constant S128x64 .f32 0x00000000#32)) bitsLt_bf16_f32

variable (x0 : FVec Ideal S2x8192x1024 .f32) (x3 : FVec Ideal S1x1024 .f32) (x4 : FVec Ideal S1x1024x5376 .f32)
  (x6 : FVec Ideal S1x8 .f32)
variable (valid : IVec S128x256 1) (q : FVec Ideal S128x64 .bf16) (k v : FVec Ideal S256x64 .bf16) (slope sink : Ideal .f32)
variable (b : Fin 2) (n : Fin 64) (i : Fin 128) (kv : Fin 2) (g : Fin 4)

/-- One head's output. -/
theorem head_at (hq : ∀ e : Fin 64, q (ix2 i e) = val_main_v51 (F := Ideal) x0 x3 x4 (ix6 b n i kv g e))
    (hk : ∀ (a : Fin 256) (e : Fin 64), k (ix2 a e) = val_main_v56 (F := Ideal) x0 x3 x4 (ix5 b n a kv e))
    (hv : ∀ (a : Fin 256) (e : Fin 64), v (ix2 a e) = val_main_v61 (F := Ideal) x0 x3 x4 (ix5 b n a kv e))
    (hm : ∀ a : Fin 256, valid (ix2 i a) = val_main_v96 (F := Ideal) (ix3 n i a))
    (hs : slope = val_main_v106 (F := Ideal) (ix2 kv g)) (hk' : sink = val_main_v118 (F := Ideal) x6 (ix2 kv g))
    (e : Fin 64) :
    head (F := Ideal) valid q k v slope sink (ix2 i e) = val_main_v138 (F := Ideal) x0 x3 x4 x6 (ix6 b n i kv g e) := by
  have hz := score_at x0 x3 x4 valid q k slope b n i kv g hq hk hm hs
  unfold head
  generalize (select valid _ _ : FVec Ideal S128x256 .f32) = z at hz ⊢
  pointwise
  simp only [hz, hv, hk', out_at, exp_at, sum_at, shift_at, max_at]
  exact Finset.sum_congr rfl fun _ _ => mul_comm _ _

end Cert.KernelIdeal.Layer

end
-- ==== Proof.SwaTile.lean ====
module

public import proofs.«01_k».proof.Proof.Gen.KernelIdeal.Value
public import proofs.«01_k».proof.Proof.Gen.ReferenceIdeal.Read
public import proofs.«01_k».proof.Proof.Layout
public import proofs.«01_k».proof.Proof.Band
public import proofs.«01_k».proof.Proof.Head
public import Idealize.ShloMosaic.Lib.Pipeline.ValueKit
public import Idealize.ShloMosaic.Lib.Pointwise

/-!
# A tile's sliding-window attention

The two key arrays of a tile (its first block's, whose first half is carried from the tile before, and its second
block's), and the sixteen stores of the heads' outputs, read together as the reference's merged attention output.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x3 : FVec Ideal S1x1024 .f32) (x4 : FVec Ideal S1x1024x5376 .f32)
  (x6 : FVec Ideal S1x8 .f32)
variable (Q : FVec Ideal S256x512 .bf16) (K : FVec Ideal S256x128 .f32) (kp vp : FVec Ideal S128x128 .bf16)
  (XN : FVec Ideal S256x1024 .bf16) (W : Vec Ideal S1024x128 .bf16) (flag : BitVec 1)
variable (b : Fin 2) (N : Fin 32)

/-- The first block's keys: the carried rows of the tile before, then the block's own. -/
theorem key_first (hK : ∀ (r : Fin 256) (s : Fin 8192), s.val = N.val * 256 + r.val → ∀ j,
      K (ix2 r j) = val_main_v17 (F := Ideal) x0 x3 x4 (ix3 b s j))
    (hp0 : N.val = 0 → ∀ a j, kp (ix2 a j) = (0 : EReal))
    (hp : ∀ (a : Fin 128) (s : Fin 8192), s.val + 128 = N.val * 256 + a.val → ∀ j,
      kp (ix2 a j) = val_main_v17 (F := Ideal) x0 x3 x4 (ix3 b s j))
    (n : Fin 64) (hn : n.val = N.val * 2) (a : Fin 256) (kv : Fin 2) (e : Fin 64) (j : Fin 128) (hj : j.val = kv.val * 64 + e.val) :
    k0_pay17 K kp (ix2 a j) = val_main_v56 (F := Ideal) x0 x3 x4 (ix5 b n a kv e) := by
  pointwise [k0_pay17, k0_pay11]
  by_cases ha : a.val < 128
  · rw [dif_pos ha]
    by_cases h0 : N.val = 0
    · rw [band_k_zero x0 x3 x4 b n a kv e (by omega)]
      exact hp0 h0 _ _
    · rw [band_k x0 x3 x4 b n a kv e ⟨n.val * 128 + a.val - 128, by omega⟩ j (by show _ - 128 + 128 = _; omega) hj]
      exact hp _ _ (by show _ - 128 + 128 = _ + a.val; omega) _
  · rw [dif_neg ha, band_k x0 x3 x4 b n a kv e ⟨n.val * 128 + a.val - 128, by omega⟩ j (by show _ - 128 + 128 = _; omega) hj]
    exact hK _ _ (by show _ - 128 = _ + (a.val - 128); omega) _

/-- The second block's keys: the whole tile's. -/
theorem key_second (hK : ∀ (r : Fin 256) (s : Fin 8192), s.val = N.val * 256 + r.val → ∀ j,
      K (ix2 r j) = val_main_v17 (F := Ideal) x0 x3 x4 (ix3 b s j))
    (n : Fin 64) (hn : n.val = N.val * 2 + 1) (a : Fin 256) (kv : Fin 2) (e : Fin 64) (j : Fin 128) (hj : j.val = kv.val * 64 + e.val) :
    k0_pay40 (k0_pay11 K) (ix2 a j) = val_main_v56 (F := Ideal) x0 x3 x4 (ix5 b n a kv e) := by
  pointwise [k0_pay40, k0_pay11]
  rw [band_k x0 x3 x4 b n a kv e ⟨N.val * 256 + a.val, by omega⟩ j (by show _ + a.val + 128 = _; omega) hj]
  by_cases ha : a.val < 128
  · rw [dif_pos ha]
    exact hK _ _ rfl _
  · rw [dif_neg ha]
    exact hK _ _ (by show _ + a.val = _ + (128 + (a.val - 128)); omega) _

/-- The first block's values. -/
theorem value_first (hV : ∀ (r : Fin 256) (s : Fin 8192), s.val = N.val * 256 + r.val → ∀ j,
      k0_pay8 XN W (ix2 r j) = val_main_v18 (F := Ideal) x0 x3 x4 (ix3 b s j))
    (hp0 : N.val = 0 → ∀ a j, vp (ix2 a j) = (0 : EReal))
    (hp : ∀ (a : Fin 128) (s : Fin 8192), s.val + 128 = N.val * 256 + a.val → ∀ j,
      vp (ix2 a j) = val_main_v18 (F := Ideal) x0 x3 x4 (ix3 b s j))
    (n : Fin 64) (hn : n.val = N.val * 2) (a : Fin 256) (kv : Fin 2) (e : Fin 64) (j : Fin 128) (hj : j.val = kv.val * 64 + e.val) :
    k0_pay18 XN W vp (ix2 a j) = val_main_v61 (F := Ideal) x0 x3 x4 (ix5 b n a kv e) := by
  unfold k0_pay18 k0_pay12
  generalize k0_pay8 XN W = V at hV ⊢
  pointwise
  by_cases ha : a.val < 128
  · rw [dif_pos ha]
    by_cases h0 : N.val = 0
    · rw [band_v_zero x0 x3 x4 b n a kv e (by omega)]
      exact hp0 h0 _ _
    · rw [band_v x0 x3 x4 b n a kv e ⟨n.val * 128 + a.val - 128, by omega⟩ j (by show _ - 128 + 128 = _; omega) hj]
      exact hp _ _ (by show _ - 128 + 128 = _ + a.val; omega) _
  · rw [dif_neg ha, band_v x0 x3 x4 b n a kv e ⟨n.val * 128 + a.val - 128, by omega⟩ j (by show _ - 128 + 128 = _; omega) hj]
    exact hV _ _ (by show _ - 128 = _ + (a.val - 128); omega) _

/-- The second block's values. -/
theorem value_second (hV : ∀ (r : Fin 256) (s : Fin 8192), s.val = N.val * 256 + r.val → ∀ j,
      k0_pay8 XN W (ix2 r j) = val_main_v18 (F := Ideal) x0 x3 x4 (ix3 b s j))
    (n : Fin 64) (hn : n.val = N.val * 2 + 1) (a : Fin 256) (kv : Fin 2) (e : Fin 64) (j : Fin 128) (hj : j.val = kv.val * 64 + e.val) :
    k0_pay41 (k0_pay12 XN W) (ix2 a j) = val_main_v61 (F := Ideal) x0 x3 x4 (ix5 b n a kv e) := by
  unfold k0_pay41 k0_pay12
  generalize k0_pay8 XN W = V at hV ⊢
  pointwise
  rw [band_v x0 x3 x4 b n a kv e ⟨N.val * 256 + a.val, by omega⟩ j (by show _ + a.val + 128 = _; omega) hj]
  by_cases ha : a.val < 128
  · rw [dif_pos ha]
    exact hV _ _ rfl _
  · rw [dif_neg ha]
    exact hV _ _ (by show _ + a.val = _ + (128 + (a.val - 128)); omega) _

/-- One head of one block, from the whole tile's queries and the block's keys and values: the head's query columns are
`h * 64 …`, its key and value columns `h / 4 * 64 …`. -/
theorem swa_piece (h : Fin 8) (o : ℕ) (ho : o = 0 ∨ o = 128) (n : Fin 64) (hn : n.val * 128 = N.val * 256 + o)
    (valid : IVec S128x256 1) (kk vv : FVec Ideal S256x128 .bf16) (q : FVec Ideal S128x64 .bf16) (k v : FVec Ideal S256x64 .bf16)
    (slope sink : Ideal .f32)
    (hQ : ∀ (r : Fin 256) (s : Fin 8192), s.val = N.val * 256 + r.val → ∀ j,
      Q (ix2 r j) = val_main_v16 (F := Ideal) x0 x3 x4 (ix3 b s j))
    (hkk : ∀ (a : Fin 256) (kv : Fin 2) (e : Fin 64) (j : Fin 128), j.val = kv.val * 64 + e.val →
      kk (ix2 a j) = val_main_v56 (F := Ideal) x0 x3 x4 (ix5 b n a kv e))
    (hvv : ∀ (a : Fin 256) (kv : Fin 2) (e : Fin 64) (j : Fin 128), j.val = kv.val * 64 + e.val →
      vv (ix2 a j) = val_main_v61 (F := Ideal) x0 x3 x4 (ix5 b n a kv e))
    (hm : ∀ (i : Fin 128) (a : Fin 256), valid (ix2 i a) = val_main_v96 (F := Ideal) (ix3 n i a))
    (hsink : sink = x6 (ix2 0 h)) (hslope : slope = slopes h)
    (hq : ∀ (i : Fin 128) (e : Fin 64) (r : Fin 256) (j : Fin 512), r.val = o + i.val → j.val = h.val * 64 + e.val →
      q (ix2 i e) = Q (ix2 r j))
    (hk : ∀ (a : Fin 256) (e : Fin 64) (j : Fin 128), j.val = h.val / 4 * 64 + e.val → k (ix2 a e) = kk (ix2 a j))
    (hv : ∀ (a : Fin 256) (e : Fin 64) (j : Fin 128), j.val = h.val / 4 * 64 + e.val → v (ix2 a e) = vv (ix2 a j))
    (x : S128x64.Idx) (y : S256x512.Idx) (e0 : (y 0).val = o + (x 0).val) (e1 : (y 1).val = h.val * 64 + (x 1).val)
    (s : Fin 8192) (hs : s.val = N.val * 256 + (y 0).val) :
    head valid q k v slope sink x = val_main_v139 (F := Ideal) x0 x3 x4 x6 (ix3 b s (y 1)) := by
  obtain ⟨i, e, rfl⟩ : ∃ i e, x = ix2 i e := ⟨x 0, x 1, (ix2_eta x).symm⟩
  have hi : i.val < 128 := i.isLt
  have he : e.val < 64 := e.isLt
  have e0' : (y 0).val = o + i.val := e0
  have e1' : (y 1).val = h.val * 64 + e.val := e1
  rw [swa_out x0 x3 x4 x6 b s (y 1) n i ⟨h.val / 4, by omega⟩ ⟨h.val % 4, by omega⟩ e (by omega)
    (by show (y 1).val = (h.val / 4 * 4 + h.val % 4) * 64 + e.val; omega)]
  refine head_at x0 x3 x4 x6 valid q k v slope sink b n i _ _ ?_ ?_ ?_ (hm i) ?_ ?_ e
  · intro e'
    rw [hq i e' ⟨o + i.val, by omega⟩ ⟨h.val * 64 + e'.val, by omega⟩ rfl rfl]
    rw [hQ _ s (by show s.val = _ + (o + i.val); omega)]
    exact (swa_q x0 x3 x4 b s _ n i _ _ e' (by omega)
      (by show h.val * 64 + e'.val = (h.val / 4 * 4 + h.val % 4) * 64 + e'.val; omega)).symm
  · intro a e'
    rw [hk a e' ⟨h.val / 4 * 64 + e'.val, by omega⟩ rfl]
    exact hkk a _ e' _ rfl
  · intro a e'
    rw [hv a e' ⟨h.val / 4 * 64 + e'.val, by omega⟩ rfl]
    exact hvv a _ e' _ rfl
  · rw [hslope]
    exact slope_at _ _ h (by show h.val = h.val / 4 * 4 + h.val % 4; omega)
  · rw [hsink]
    exact (sink_at x6 _ _ h (by show h.val = h.val / 4 * 4 + h.val % 4; omega)).symm

/-- Columns cut out of a tile's queries. -/
theorem cut_q (o c : ℕ) (hsl : S256x512.Slices ![o, c] S128x64) (i : Fin 128) (e : Fin 64) (r : Fin 256) (j : Fin 512)
    (hr : r.val = o + i.val) (hj : j.val = c + e.val) : extractStridedSlice S128x64 ![o, c] Q hsl (ix2 i e) = Q (ix2 r j) := by
  refine extractStridedSlice_apply _ Q hsl _ _ fun a => ?_
  match a with
  | ⟨0, _⟩ => exact hr
  | ⟨1, _⟩ => exact hj

/-- Columns cut out of a block's keys or values. -/
theorem cut_k (kk : FVec Ideal S256x128 .bf16) (c : ℕ) (hsl : S256x128.Slices ![0, c] S256x64) (a : Fin 256) (e : Fin 64)
    (j : Fin 128) (hj : j.val = c + e.val) : extractStridedSlice S256x64 ![0, c] kk hsl (ix2 a e) = kk (ix2 a j) := by
  refine extractStridedSlice_apply _ kk hsl _ _ fun a' => ?_
  match a' with
  | ⟨0, _⟩ => exact (Nat.zero_add _).symm
  | ⟨1, _⟩ => exact hj

end Cert.KernelIdeal.Layer

end
-- ==== Proof.SwaStores.lean ====
module

public import proofs.«01_k».proof.Proof.Gen.KernelIdeal.Value
public import proofs.«01_k».proof.Proof.Gen.ReferenceIdeal.Read
public import proofs.«01_k».proof.Proof.SwaTile
public import Idealize.ShloMosaic.Lib.Pipeline.ValueKit
public import Idealize.ShloMosaic.Lib.Pointwise

/-!
# The sixteen stores of a tile's sliding-window attention

The body stores each head's output of each block at its own rows and columns of one buffer; read back, the buffer is the
tile's rows of the reference's merged attention output.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The stores of the sixteen outputs, the last one first. -/
def swaStores (Q : FVec Ideal S256x512 .bf16) (K : FVec Ideal S256x128 .f32) (kp : FVec Ideal S128x128 .bf16)
    (v0 v1 : FVec Ideal S256x128 .bf16) (flag : BitVec 1) (s0 s1 s2 s3 s4 s5 s6 s7 : Ideal .f32) :
    List (View.Piece (Elt Ideal) S256x512 .bf16) :=
  [⟨Rect.unit ![128, 448] ![128, 64] inb_S256x512_S128x64_128_448, k0_pay60 Q k0_pay14 k0_pay15 (k0_pay40 (k0_pay11 K)) v1 s7⟩,
   ⟨Rect.unit ![128, 384] ![128, 64] inb_S256x512_S128x64_128_384, k0_pay59 Q k0_pay14 k0_pay15 (k0_pay40 (k0_pay11 K)) v1 s6⟩,
   ⟨Rect.unit ![128, 320] ![128, 64] inb_S256x512_S128x64_128_320,
      k0_pay58 v1 (k0_pay54 Q k0_pay14 k0_pay15 (k0_pay40 (k0_pay11 K)) s5) (k0_pay55 Q k0_pay14 k0_pay15 (k0_pay40 (k0_pay11 K)) s5)
        (k0_pay56 Q k0_pay14 k0_pay15 (k0_pay40 (k0_pay11 K)) s5) (k0_pay57 s5)⟩,
   ⟨Rect.unit ![128, 256] ![128, 64] inb_S256x512_S128x64_128_256,
      k0_pay52 k0_pay14 v1 (k0_pay51 Q k0_pay15 (k0_pay40 (k0_pay11 K))) (FloatOps.ofBits .f32 4048155338#32) s4⟩,
   ⟨Rect.unit ![128, 192] ![128, 64] inb_S256x512_S128x64_128_192, k0_pay50 Q k0_pay14 k0_pay15 (k0_pay40 (k0_pay11 K)) v1 s3⟩,
   ⟨Rect.unit ![128, 128] ![128, 64] inb_S256x512_S128x64_128_128,
      k0_pay49 (k0_pay48 Q k0_pay14 k0_pay15 (k0_pay40 (k0_pay11 K)) v1 s2)⟩,
   ⟨Rect.unit ![128, 64] ![128, 64] inb_S256x512_S128x64_128_64,
      k0_pay47 v1 s1 (k0_pay45 Q k0_pay14 k0_pay15 (k0_pay40 (k0_pay11 K)) s1) (k0_pay46 Q k0_pay14 k0_pay15 (k0_pay40 (k0_pay11 K)) s1)⟩,
   ⟨Rect.unit ![128, 0] ![128, 64] inb_S256x512_S128x64_128_0,
      k0_pay43 k0_pay14 k0_pay15 v1 (k0_pay42 Q (k0_pay11 K)) (FloatOps.ofBits .f32 1056964608#32) s0⟩,
   ⟨Rect.unit ![0, 448] ![128, 64] inb_S256x512_S128x64_0_448, k0_pay39 Q k0_pay15 (k0_pay16 flag) (k0_pay17 K kp) v0 s7⟩,
   ⟨Rect.unit ![0, 384] ![128, 64] inb_S256x512_S128x64_0_384, k0_pay38 (k0_pay37 Q k0_pay15 (k0_pay16 flag) (k0_pay17 K kp) v0 s6)⟩,
   ⟨Rect.unit ![0, 320] ![128, 64] inb_S256x512_S128x64_0_320,
      k0_pay36 v0 s5 (k0_pay33 Q k0_pay15 (k0_pay16 flag) (k0_pay17 K kp) s5) (k0_pay34 Q k0_pay15 (k0_pay16 flag) (k0_pay17 K kp) s5)
        (k0_pay35 Q k0_pay15 (k0_pay16 flag) (k0_pay17 K kp) s5)⟩,
   ⟨Rect.unit ![0, 256] ![128, 64] inb_S256x512_S128x64_0_256,
      k0_pay31 (k0_pay16 flag) v0 (k0_pay29 Q (k0_pay17 K kp)) (k0_pay30 k0_pay15) s4⟩,
   ⟨Rect.unit ![0, 192] ![128, 64] inb_S256x512_S128x64_0_192, k0_pay28 Q k0_pay15 (k0_pay16 flag) (k0_pay17 K kp) v0 s3⟩,
   ⟨Rect.unit ![0, 128] ![128, 64] inb_S256x512_S128x64_0_128, k0_pay27 (k0_pay26 Q k0_pay15 (k0_pay16 flag) (k0_pay17 K kp) v0 s2)⟩,
   ⟨Rect.unit ![0, 64] ![128, 64] inb_S256x512_S128x64_0_64,
      k0_pay25 v0 (k0_pay22 Q k0_pay15 (k0_pay16 flag) (k0_pay17 K kp)) s1 (k0_pay23 Q k0_pay15 (k0_pay16 flag) (k0_pay17 K kp) s1)
        (k0_pay24 Q k0_pay15 (k0_pay16 flag) (k0_pay17 K kp) s1)⟩,
   ⟨Rect.unit ![0, 0] ![128, 64] inb_S256x512_S128x64_0_0, k0_pay21 k0_pay15 (k0_pay16 flag) v0 (k0_pay19 Q K kp) k0_pay20 s0⟩]

variable (x0 : FVec Ideal S2x8192x1024 .f32) (x3 : FVec Ideal S1x1024 .f32) (x4 : FVec Ideal S1x1024x5376 .f32)
  (x6 : FVec Ideal S1x8 .f32)
variable (Q : FVec Ideal S256x512 .bf16) (K : FVec Ideal S256x128 .f32) (kp : FVec Ideal S128x128 .bf16)
  (v0 v1 : FVec Ideal S256x128 .bf16) (flag : BitVec 1) (s0 s1 s2 s3 s4 s5 s6 s7 : Ideal .f32)
variable (b : Fin 2) (N : Fin 32)

/-- The buffer of the sixteen outputs, read at an index. -/
theorem swa_stores (n0 n1 : Fin 64) (hn0 : n0.val = N.val * 2) (hn1 : n1.val = N.val * 2 + 1)
    (hQ : ∀ (r : Fin 256) (s : Fin 8192), s.val = N.val * 256 + r.val → ∀ j,
      Q (ix2 r j) = val_main_v16 (F := Ideal) x0 x3 x4 (ix3 b s j))
    (hk0 : ∀ (a : Fin 256) (kv : Fin 2) (e : Fin 64) (j : Fin 128), j.val = kv.val * 64 + e.val →
      k0_pay17 K kp (ix2 a j) = val_main_v56 (F := Ideal) x0 x3 x4 (ix5 b n0 a kv e))
    (hv0 : ∀ (a : Fin 256) (kv : Fin 2) (e : Fin 64) (j : Fin 128), j.val = kv.val * 64 + e.val →
      v0 (ix2 a j) = val_main_v61 (F := Ideal) x0 x3 x4 (ix5 b n0 a kv e))
    (hk1 : ∀ (a : Fin 256) (kv : Fin 2) (e : Fin 64) (j : Fin 128), j.val = kv.val * 64 + e.val →
      k0_pay40 (k0_pay11 K) (ix2 a j) = val_main_v56 (F := Ideal) x0 x3 x4 (ix5 b n1 a kv e))
    (hv1 : ∀ (a : Fin 256) (kv : Fin 2) (e : Fin 64) (j : Fin 128), j.val = kv.val * 64 + e.val →
      v1 (ix2 a j) = val_main_v61 (F := Ideal) x0 x3 x4 (ix5 b n1 a kv e))
    (hf : flag = if n0.val = 0 then 1#1 else 0#1)
    (hs0 : s0 = x6 (ix2 0 0)) (hs1 : s1 = x6 (ix2 0 1)) (hs2 : s2 = x6 (ix2 0 2)) (hs3 : s3 = x6 (ix2 0 3))
    (hs4 : s4 = x6 (ix2 0 4)) (hs5 : s5 = x6 (ix2 0 5)) (hs6 : s6 = x6 (ix2 0 6)) (hs7 : s7 = x6 (ix2 0 7))
    (y : S256x512.Idx) (s : Fin 8192) (hs : s.val = N.val * 256 + (y 0).val) :
    View.canon (swaStores Q K kp v0 v1 flag s0 s1 s2 s3 s4 s5 s6 s7) y
      = val_main_v139 (F := Ideal) x0 x3 x4 x6 (ix3 b s (y 1)) := by
  have hm0 := fun i a => valid_block n0 i a flag hf
  have hm1 := fun i a => valid_rest n1 i a (by omega)
  unfold swaStores
  have first := fun h q k v slope sink => swa_piece x0 x3 x4 x6 Q b N h 0 (Or.inl rfl) n0 (by omega) (k0_pay16 flag)
    (k0_pay17 K kp) v0 q k v slope sink hQ hk0 hv0 hm0
  have second := fun h q k v slope sink => swa_piece x0 x3 x4 x6 Q b N h 128 (Or.inr rfl) n1 (by omega) k0_pay14
    (k0_pay40 (k0_pay11 K)) v1 q k v slope sink hQ hk1 hv1 hm1
  canon_tiles x h
  all_goals
    simp only [k0_pay60, k0_pay59, k0_pay58, k0_pay57, k0_pay56, k0_pay55, k0_pay54, k0_pay52, k0_pay51, k0_pay50, k0_pay49,
      k0_pay48, k0_pay47, k0_pay46, k0_pay45, k0_pay43, k0_pay42, k0_pay39, k0_pay38, k0_pay37, k0_pay36, k0_pay35, k0_pay34,
      k0_pay33, k0_pay31, k0_pay30, k0_pay29, k0_pay28, k0_pay27, k0_pay26, k0_pay25, k0_pay24, k0_pay23, k0_pay22, k0_pay21,
      k0_pay20, k0_pay19, shapeCast_self]
  · exact second 7 _ _ _ _ _ hs7 rfl (cut_q Q _ _ _) (cut_k _ _ _) (cut_k _ _ _) x y h0 h1 s hs
  · exact second 6 _ _ _ _ _ hs6 rfl (cut_q Q _ _ _) (cut_k _ _ _) (cut_k _ _ _) x y h0 h1 s hs
  · exact second 5 _ _ _ _ _ hs5 rfl (cut_q Q _ _ _) (cut_k _ _ _) (cut_k _ _ _) x y h0 h1 s hs
  · exact second 4 _ _ _ _ _ hs4 rfl (cut_q Q _ _ _) (cut_k _ _ _) (cut_k _ _ _) x y h0 h1 s hs
  · exact second 3 _ _ _ _ _ hs3 rfl (cut_q Q _ _ _) (cut_k _ _ _) (cut_k _ _ _) x y h0 h1 s hs
  · exact second 2 _ _ _ _ _ hs2 rfl (cut_q Q _ _ _) (cut_k _ _ _) (cut_k _ _ _) x y h0 h1 s hs
  · exact second 1 _ _ _ _ _ hs1 rfl (cut_q Q _ _ _) (cut_k _ _ _) (cut_k _ _ _) x y h0 h1 s hs
  · exact second 0 _ _ _ _ _ hs0 rfl (cut_q Q _ _ _) (cut_k _ _ _) (cut_k _ _ _) x y h0 (h1.trans (Nat.zero_add _).symm) s hs
  · exact first 7 _ _ _ _ _ hs7 rfl (cut_q Q _ _ _) (cut_k _ _ _) (cut_k _ _ _) x y (h0.trans (Nat.zero_add _).symm) h1 s hs
  · exact first 6 _ _ _ _ _ hs6 rfl (cut_q Q _ _ _) (cut_k _ _ _) (cut_k _ _ _) x y (h0.trans (Nat.zero_add _).symm) h1 s hs
  · exact first 5 _ _ _ _ _ hs5 rfl (cut_q Q _ _ _) (cut_k _ _ _) (cut_k _ _ _) x y (h0.trans (Nat.zero_add _).symm) h1 s hs
  · exact first 4 _ _ _ _ _ hs4 rfl (cut_q Q _ _ _) (cut_k _ _ _) (cut_k _ _ _) x y (h0.trans (Nat.zero_add _).symm) h1 s hs
  · exact first 3 _ _ _ _ _ hs3 rfl (cut_q Q _ _ _) (cut_k _ _ _) (cut_k _ _ _) x y (h0.trans (Nat.zero_add _).symm) h1 s hs
  · exact first 2 _ _ _ _ _ hs2 rfl (cut_q Q _ _ _) (cut_k _ _ _) (cut_k _ _ _) x y (h0.trans (Nat.zero_add _).symm) h1 s hs
  · exact first 1 _ _ _ _ _ hs1 rfl (cut_q Q _ _ _) (cut_k _ _ _) (cut_k _ _ _) x y (h0.trans (Nat.zero_add _).symm) h1 s hs
  · exact first 0 _ _ _ _ _ hs0 rfl (cut_q Q _ _ _) (cut_k _ _ _) (cut_k _ _ _) x y (h0.trans (Nat.zero_add _).symm) (h1.trans (Nat.zero_add _).symm) s hs

end Cert.KernelIdeal.Layer

end
-- ==== Proof.Chunk.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# One group of one chunk of the spatial gate

`gate` is the body's computation; `gate_at` reads it as the reference's.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The body's computation for one group of one chunk: the lower triangle of the group's weights mixes the chunk's rows, the
bias is added, and the result gates. -/
def gate {F : FTy → Type} [FloatOps F] (u : FVec F S128x128 .f32) (vc : FVec F S128x128 .bf16) (w : FVec F S128x128 .f32)
    (bias : FVec F S128x1 .f32) : FVec F S128x128 .bf16 :=
  truncf .bf16 (mulf u (addf (matmul dot_S128x128_S128x128_S128x128_1_0_0_1_n_n none
    (truncf .bf16 (select k0_pay66 w (broadcast S128x128 (Scalar.ofBits .f32 0x00000000#32))) bitsLt_bf16_f32) vc
    (constant S128x128 .f32 0x00000000#32)) (broadcastTo S128x128 bias broadcasts_S128x1_S128x128))) bitsLt_bf16_f32

/-- One group of one chunk. -/
theorem gate_at (x0 : FVec Ideal S2x8192x1024 .f32) (x3 : FVec Ideal S1x1024 .f32) (x4 : FVec Ideal S1x1024x5376 .f32)
    (x7 : FVec Ideal S1x512 .f32) (x8 : FVec Ideal S1x4x128x128 .f32) (x9 : FVec Ideal S1x4x128 .f32)
    (u : FVec Ideal S128x128 .f32) (vc : FVec Ideal S128x128 .bf16) (w : FVec Ideal S128x128 .f32) (bias : FVec Ideal S128x1 .f32)
    (b : Fin 2) (n : Fin 64) (i : Fin 128) (g : Fin 4) (e : Fin 128)
    (hu : u (ix2 i e) = val_main_v140 (F := Ideal) x0 x3 x4 (ix5 b n i g e))
    (hv : ∀ a : Fin 128, vc (ix2 a e) = val_main_v141 (F := Ideal) x0 x3 x4 x7 (ix5 b n a g e))
    (hw : ∀ a : Fin 128, w (ix2 i a) = val_main_v142 (F := Ideal) x8 (ix3 g i a))
    (hb : bias (ix2 i 0) = val_main_v143 (F := Ideal) x9 (ix2 g i)) :
    gate (F := Ideal) u vc w bias (ix2 i e) = val_main_v151 (F := Ideal) x0 x3 x4 x7 x8 x9 (ix5 b n i g e) := by
  pointwise [gate, k0_pay66, val_main_v151, val_main_v150, val_main_v149, val_main_v148, val_main_v147, val_main_v146,
    val_main_v145, val_main_v144, val_main_call3_v6, val_main_call3_v5, val_main_call3_v4, val_main_call3_v3,
    val_main_call3_v2, val_main_call3_v1, val_main_call3_v0, val_main_call3_c, val_main_call3_cst]
  simp only [hu, hv, hw, hb, IntOp.addi, BitVec.add_zero]
  refine congrArg (_ * ·) (congrArg (· + _) (Finset.sum_congr rfl fun a _ => ?_))
  rw [mul_comm (val_main_v142 (F := Ideal) x8 (ix3 g i a))]

end Cert.KernelIdeal.Layer

end
-- ==== Proof.ChunkStores.lean ====
module

public import proofs.«01_k».proof.Proof.Gen.KernelIdeal.Value
public import proofs.«01_k».proof.Proof.Gen.ReferenceIdeal.Read
public import proofs.«01_k».proof.Proof.Layout
public import proofs.«01_k».proof.Proof.Chunk
public import Idealize.ShloMosaic.Lib.Pipeline.ValueKit
public import Idealize.ShloMosaic.Lib.Pointwise

/-!
# The eight stores of a tile's chunk mixing

The body stores each group's output of each chunk at its own rows and columns of one buffer; read back, the buffer is the
tile's rows of the reference's merged chunk output.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The stores of the eight outputs, the last one first. -/
def chunkStores (XN : FVec Ideal S256x1024 .bf16) (W : Vec Ideal S1024x1024 .bf16) (G : Vec Ideal S1x512 .f32)
    (w0 w1 w2 w3 : Vec Ideal S1x128x128 .f32) (c0 c1 c2 c3 : Vec Ideal S128x1 .f32) : List (View.Piece (Elt Ideal) S256x512 .bf16) :=
  [⟨Rect.unit ![128, 384] ![128, 128] inb_S256x512_S128x128_128_384, k0_pay82 (k0_pay64 XN W) (k0_pay65 XN W G) k0_pay66 (k0_pay79 w3) c3⟩,
   ⟨Rect.unit ![0, 384] ![128, 128] inb_S256x512_S128x128_0_384, k0_pay81 (k0_pay64 XN W) (k0_pay65 XN W G) k0_pay66 (k0_pay79 w3) c3⟩,
   ⟨Rect.unit ![128, 256] ![128, 128] inb_S256x512_S128x128_128_256, k0_pay78 (k0_pay64 XN W) (k0_pay65 XN W G) k0_pay66 w2 c2⟩,
   ⟨Rect.unit ![0, 256] ![128, 128] inb_S256x512_S128x128_0_256, k0_pay77 (k0_pay64 XN W) (k0_pay65 XN W G) k0_pay66 w2 c2⟩,
   ⟨Rect.unit ![128, 128] ![128, 128] inb_S256x512_S128x128_128_128,
      k0_pay75 (k0_pay64 XN W) (k0_pay73 (k0_pay65 XN W G) k0_pay66 w1) (k0_pay74 c1)⟩,
   ⟨Rect.unit ![0, 128] ![128, 128] inb_S256x512_S128x128_0_128, k0_pay72 (k0_pay64 XN W) (k0_pay65 XN W G) k0_pay66 w1 c1⟩,
   ⟨Rect.unit ![128, 0] ![128, 128] inb_S256x512_S128x128_128_0, k0_pay70 (k0_pay64 XN W) (k0_pay65 XN W G) (k0_pay67 w0) c0⟩,
   ⟨Rect.unit ![0, 0] ![128, 128] inb_S256x512_S128x128_0_0, k0_pay69 (k0_pay68 XN W G w0 c0)⟩]

variable (x0 : FVec Ideal S2x8192x1024 .f32) (x3 : FVec Ideal S1x1024 .f32) (x4 : FVec Ideal S1x1024x5376 .f32)
  (x7 : FVec Ideal S1x512 .f32) (x8 : FVec Ideal S1x4x128x128 .f32) (x9 : FVec Ideal S1x4x128 .f32)
variable (b : Fin 2) (N : Fin 32)

/-- One group of one chunk, from the whole tile's gates and values: the group's columns are `g * 128 …`. -/
theorem chunk_piece (U : FVec Ideal S256x512 .f32) (V : FVec Ideal S256x512 .bf16)
    (hU : ∀ (r : Fin 256) (s : Fin 8192), s.val = N.val * 256 + r.val → ∀ j,
      U (ix2 r j) = val_main_v31 (F := Ideal) x0 x3 x4 (ix3 b s j))
    (hV : ∀ (r : Fin 256) (s : Fin 8192), s.val = N.val * 256 + r.val → ∀ j,
      V (ix2 r j) = val_main_v46 (F := Ideal) x0 x3 x4 x7 (ix3 b s j))
    (g : Fin 4) (o : ℕ) (n : Fin 64) (hn : n.val * 128 = N.val * 256 + o) (ho : o = 0 ∨ o = 128)
    (u : FVec Ideal S128x128 .f32) (v : FVec Ideal S128x128 .bf16) (W : Vec Ideal S1x128x128 .f32) (c : Vec Ideal S128x1 .f32)
    (hW : ∀ i a : Fin 128, W (ix3 0 i a) = x8 (ix4 0 g i a)) (hc : ∀ i : Fin 128, c (ix2 i 0) = x9 (ix3 0 g i))
    (hu : ∀ (i e : Fin 128) (r : Fin 256) (j : Fin 512), r.val = o + i.val → j.val = g.val * 128 + e.val →
      u (ix2 i e) = U (ix2 r j))
    (hv : ∀ (i e : Fin 128) (r : Fin 256) (j : Fin 512), r.val = o + i.val → j.val = g.val * 128 + e.val →
      v (ix2 i e) = V (ix2 r j))
    (x : S128x128.Idx) (y : S256x512.Idx) (e0 : (y 0).val = o + (x 0).val) (e1 : (y 1).val = g.val * 128 + (x 1).val)
    (s : Fin 8192) (hs : s.val = N.val * 256 + (y 0).val) (hsc) :
    gate u v (shapeCast S128x128 W hsc) c x = val_main_v152 (F := Ideal) x0 x3 x4 x7 x8 x9 (ix3 b s (y 1)) := by
  obtain ⟨i, e, rfl⟩ : ∃ i e, x = ix2 i e := ⟨x 0, x 1, (ix2_eta x).symm⟩
  have hi : i.val < 128 := i.isLt
  have he : e.val < 128 := e.isLt
  have e0' : (y 0).val = o + i.val := e0
  have e1' : (y 1).val = g.val * 128 + e.val := e1
  rw [chunk_out x0 x3 x4 x7 x8 x9 b s (y 1) n i g e (by omega) e1']
  refine gate_at x0 x3 x4 x7 x8 x9 u v _ c b n i g e ?_ ?_ ?_ ?_
  · exact (hu i e ⟨o + i.val, by omega⟩ (y 1) rfl e1').trans ((hU _ s (by show s.val = _ + (o + i.val); omega) _).trans
      (chunk_u x0 x3 x4 b s _ n i g e (by omega) e1').symm)
  · intro a
    exact (hv a e ⟨o + a.val, by omega⟩ (y 1) rfl e1').trans ((hV _ ⟨N.val * 256 + (o + a.val), by omega⟩ rfl _).trans
      (chunk_v x0 x3 x4 x7 b _ _ n a g e (by show _ + (o + a.val) = _; omega) e1').symm)
  · intro a
    rw [chunk_w, ← hW i a]
    pointwise
  · rw [chunk_b]
    exact hc i

/-- Rows and columns cut out of a tile's array. -/
theorem cut_chunk {α : Type} (U : S256x512.Idx → α) (o c : ℕ) (hsl : S256x512.Slices ![o, c] S128x128) (i e : Fin 128)
    (r : Fin 256) (j : Fin 512) (hr : r.val = o + i.val) (hj : j.val = c + e.val) :
    extractStridedSlice S128x128 ![o, c] U hsl (ix2 i e) = U (ix2 r j) := by
  refine extractStridedSlice_apply _ U hsl _ _ fun a => ?_
  match a with
  | ⟨0, _⟩ => exact hr
  | ⟨1, _⟩ => exact hj

/-- The buffer of the eight outputs, read at an index. -/
theorem chunk_stores (XN : FVec Ideal S256x1024 .bf16) (W : Vec Ideal S1024x1024 .bf16) (G : Vec Ideal S1x512 .f32)
    (w0 w1 w2 w3 : Vec Ideal S1x128x128 .f32) (c0 c1 c2 c3 : Vec Ideal S128x1 .f32)
    (n0 n1 : Fin 64) (hn0 : n0.val = N.val * 2) (hn1 : n1.val = N.val * 2 + 1)
    (hU : ∀ (r : Fin 256) (s : Fin 8192), s.val = N.val * 256 + r.val → ∀ j,
      k0_pay64 XN W (ix2 r j) = val_main_v31 (F := Ideal) x0 x3 x4 (ix3 b s j))
    (hV : ∀ (r : Fin 256) (s : Fin 8192), s.val = N.val * 256 + r.val → ∀ j,
      k0_pay65 XN W G (ix2 r j) = val_main_v46 (F := Ideal) x0 x3 x4 x7 (ix3 b s j))
    (hw0 : ∀ i a : Fin 128, w0 (ix3 0 i a) = x8 (ix4 0 0 i a)) (hw1 : ∀ i a : Fin 128, w1 (ix3 0 i a) = x8 (ix4 0 1 i a))
    (hw2 : ∀ i a : Fin 128, w2 (ix3 0 i a) = x8 (ix4 0 2 i a)) (hw3 : ∀ i a : Fin 128, w3 (ix3 0 i a) = x8 (ix4 0 3 i a))
    (hc0 : ∀ i : Fin 128, c0 (ix2 i 0) = x9 (ix3 0 0 i)) (hc1 : ∀ i : Fin 128, c1 (ix2 i 0) = x9 (ix3 0 1 i))
    (hc2 : ∀ i : Fin 128, c2 (ix2 i 0) = x9 (ix3 0 2 i)) (hc3 : ∀ i : Fin 128, c3 (ix2 i 0) = x9 (ix3 0 3 i))
    (y : S256x512.Idx) (s : Fin 8192) (hs : s.val = N.val * 256 + (y 0).val) :
    View.canon (chunkStores XN W G w0 w1 w2 w3 c0 c1 c2 c3) y
      = val_main_v152 (F := Ideal) x0 x3 x4 x7 x8 x9 (ix3 b s (y 1)) := by
  have first := fun g u v => chunk_piece x0 x3 x4 x7 x8 x9 b N _ _ hU hV g 0 n0 (by omega) (Or.inl rfl) u v
  have second := fun g u v => chunk_piece x0 x3 x4 x7 x8 x9 b N _ _ hU hV g 128 n1 (by omega) (Or.inr rfl) u v
  unfold chunkStores
  canon_tiles x h
  all_goals simp only [k0_pay82, k0_pay81, k0_pay80, k0_pay79, k0_pay78, k0_pay77, k0_pay76, k0_pay75, k0_pay74, k0_pay73, k0_pay72,
    k0_pay71, k0_pay70, k0_pay69, k0_pay68, k0_pay67, shapeCast_self]
  · exact second 3 _ _ w3 c3 hw3 hc3 (cut_chunk _ _ _ _) (cut_chunk _ _ _ _) x y h0 h1 s hs _
  · exact first 3 _ _ w3 c3 hw3 hc3 (cut_chunk _ _ _ _) (cut_chunk _ _ _ _) x y (h0.trans (Nat.zero_add _).symm) h1 s hs _
  · exact second 2 _ _ w2 c2 hw2 hc2 (cut_chunk _ _ _ _) (cut_chunk _ _ _ _) x y h0 h1 s hs _
  · exact first 2 _ _ w2 c2 hw2 hc2 (cut_chunk _ _ _ _) (cut_chunk _ _ _ _) x y (h0.trans (Nat.zero_add _).symm) h1 s hs _
  · exact second 1 _ _ w1 c1 hw1 hc1 (cut_chunk _ _ _ _) (cut_chunk _ _ _ _) x y h0 h1 s hs _
  · exact first 1 _ _ w1 c1 hw1 hc1 (cut_chunk _ _ _ _) (cut_chunk _ _ _ _) x y (h0.trans (Nat.zero_add _).symm) h1 s hs _
  · exact second 0 _ _ w0 c0 hw0 hc0 (cut_chunk _ _ _ _) (cut_chunk _ _ _ _) x y h0 (h1.trans (Nat.zero_add _).symm) s hs _
  · exact first 0 _ _ w0 c0 hw0 hc0 (cut_chunk _ _ _ _) (cut_chunk _ _ _ _) x y (h0.trans (Nat.zero_add _).symm)
      (h1.trans (Nat.zero_add _).symm) s hs _

end Cert.KernelIdeal.Layer

end
-- ==== Proof.MemHead.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# One head of the memory attention

`memHead` is the body's computation for one head of a tile, over the head's own columns; `memHead_at` reads it as the
reference's.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The body's computation for one head of the memory attention: 256 queries against the 256 memory rows. -/
def memHead {F : FTy → Type} [FloatOps F] (q k v : FVec F S256x128 .bf16) : FVec F S256x128 .bf16 :=
  let z : FVec F S256x256 .f32 := mulf (matmul dot_S256x128_S256x128_S256x256_1_1_0_0_n_n none q k
    (constant S256x256 .f32 0x00000000#32)) (broadcast S256x256 (Scalar.ofBits .f32 0x3DB504F3#32))
  let mx : FVec F S256 .f32 := multiReduction .maximumf [1] S256 z 0xFF800000#32 reduces_S256x256_S256 (.inl rfl) rfl
  let e : FVec F S256x256 .f32 := exp (subf z (broadcastTo S256x256 (shapeCast S256x1 mx shapeCasts_S256_S256x1)
    broadcasts_S256x1_S256x256))
  let d : FVec F S256 .f32 := multiReduction .add [1] S256 e 0x00000000#32 reduces_S256x256_S256 (.inl rfl) rfl
  truncf .bf16 (matmul dot_S256x256_S256x128_S256x128_1_0_0_1_n_n none
    (truncf .bf16 (divf e (broadcastTo S256x256 (shapeCast S256x1 d shapeCasts_S256_S256x1) broadcasts_S256x1_S256x256))
      bitsLt_bf16_f32) v (constant S256x128 .f32 0x00000000#32)) bitsLt_bf16_f32

variable (x0 : FVec Ideal S2x8192x1024 .f32) (x1 x2 : FVec Ideal S2x256x512 .bf16) (x3 : FVec Ideal S1x1024 .f32)
  (x4 : FVec Ideal S1x1024x5376 .f32)
variable (q k v : FVec Ideal S256x128 .bf16) (b : Fin 2) (s : Fin 8192) (r : Fin 256) (h : Fin 4)

/-- The scaled score of a query and a memory row. -/
theorem memScore_at (hq : ∀ e : Fin 128, q (ix2 r e) = val_main_v153 (F := Ideal) x0 x3 x4 (ix4 b s h e))
    (hk : ∀ (a : Fin 256) (e : Fin 128), k (ix2 a e) = val_main_v155 (F := Ideal) x1 (ix4 b a h e)) (a : Fin 256) :
    (mulf (matmul dot_S256x128_S256x128_S256x256_1_1_0_0_n_n none q k (constant S256x256 .f32 0x00000000#32))
      (broadcast S256x256 (Scalar.ofBits .f32 0x3DB504F3#32)) : FVec Ideal S256x256 .f32) (ix2 r a)
      = val_main_v160 (F := Ideal) x0 x1 x3 x4 (ix4 b h s a) := by
  pointwise [val_main_v160, val_main_v159, val_main_v158, val_main_cst_26]
  simp only [hq, hk]

/-- The row's shift: its largest score. -/
theorem memShift_at : val_main_v163 (F := Ideal) x0 x1 x3 x4 (ix3 b h s)
    = (Finset.univ : Finset (Fin 256)).fold max (Ideal.ofBits .f32 0xFF800000#32)
        fun a => val_main_v160 (F := Ideal) x0 x1 x3 x4 (ix4 b h s a) := by
  have hm : val_main_v161 (F := Ideal) x0 x1 x3 x4 (ix3 b h s)
      = (Finset.univ : Finset (Fin 256)).fold max (Ideal.ofBits .f32 0xFF800000#32)
          fun a => val_main_v160 (F := Ideal) x0 x1 x3 x4 (ix4 b h s a) := by
    unfold val_main_v161
    generalize val_main_v160 (F := Ideal) x0 x1 x3 x4 = z
    refine (Host.reduce_eq_fold_single (max : EReal → EReal → EReal) z _ _ (by decide) _ _).trans ?_
    refine congrArg (fun f => Finset.fold max _ f Finset.univ) (funext fun k => ?_)
    exact congrArg z (funext fun a => Fin.ext (by match a with | ⟨0, _⟩ => rfl | ⟨1, _⟩ => rfl | ⟨2, _⟩ => rfl | ⟨3, _⟩ => rfl))
  rw [val_main_v163_apply, val_main_v162_apply, hm]
  exact max_eq_right ((Finset.le_fold_max (Ideal.ofBits .f32 0xFF800000#32)).2 (Or.inl le_rfl))

/-- The exponential of a score less the row's shift. -/
theorem memExp_at (a : Fin 256) : val_main_v167 (F := Ideal) x0 x1 x3 x4 (ix4 b h s a)
    = Ideal.exp (val_main_v160 (F := Ideal) x0 x1 x3 x4 (ix4 b h s a) - val_main_v163 (F := Ideal) x0 x1 x3 x4 (ix3 b h s)) := by
  have e1 : idx_main_v164 (idx_main_v165 (ix4 b h s a)) = ix3 b h s :=
    funext fun a => Fin.ext (by match a with | ⟨0, _⟩ => rfl | ⟨1, _⟩ => rfl | ⟨2, _⟩ => rfl)
  rw [val_main_v167_apply, val_main_v166_apply, val_main_v165_apply, val_main_v164_apply, e1]
  rfl

/-- The row's sum of exponentials. -/
theorem memSum_at : val_main_v168 (F := Ideal) x0 x1 x3 x4 (ix3 b h s)
    = ∑ a : Fin 256, val_main_v167 (F := Ideal) x0 x1 x3 x4 (ix4 b h s a) := by
  rw [val_main_v168_apply]
  generalize val_main_v167 (F := Ideal) x0 x1 x3 x4 = z
  refine (congrArg (· + _) Ideal.ofBits_zero_f32).trans ((zero_add _).trans (Finset.sum_congr rfl fun k _ => ?_))
  exact congrArg z (funext fun a => Fin.ext (by match a with | ⟨0, _⟩ => rfl | ⟨1, _⟩ => rfl | ⟨2, _⟩ => rfl | ⟨3, _⟩ => rfl))

/-- The memory attention's output as a weighted sum. -/
theorem memOut_at (e : Fin 128) : val_main_v173 (F := Ideal) x0 x1 x2 x3 x4 (ix4 b s h e)
    = ∑ a : Fin 256, val_main_v157 (F := Ideal) x2 (ix4 b a h e) *
        Ideal.div (val_main_v167 (F := Ideal) x0 x1 x3 x4 (ix4 b h s a)) (val_main_v168 (F := Ideal) x0 x1 x3 x4 (ix3 b h s)) := by
  rw [val_main_v173_apply, val_main_v172_apply]
  refine Finset.sum_congr rfl fun a _ => ?_
  have e1 : lidx_main_v172 (idx_main_v173 (ix4 b s h e)) a = ix4 b a h e :=
    funext fun a => Fin.ext (by match a with | ⟨0, _⟩ => rfl | ⟨1, _⟩ => rfl | ⟨2, _⟩ => rfl | ⟨3, _⟩ => rfl)
  have e2 : ridx_main_v172 (idx_main_v173 (ix4 b s h e)) a = ix4 b h s a :=
    funext fun a => Fin.ext (by match a with | ⟨0, _⟩ => rfl | ⟨1, _⟩ => rfl | ⟨2, _⟩ => rfl | ⟨3, _⟩ => rfl)
  have e3 : idx_main_v169 (idx_main_v170 (ix4 b h s a)) = ix3 b h s :=
    funext fun a => Fin.ext (by match a with | ⟨0, _⟩ => rfl | ⟨1, _⟩ => rfl | ⟨2, _⟩ => rfl)
  rw [e1, e2, val_main_v171_apply, val_main_v170_apply, val_main_v169_apply, e3]
  rfl

/-- One head's output. -/
theorem memHead_at (hq : ∀ e : Fin 128, q (ix2 r e) = val_main_v153 (F := Ideal) x0 x3 x4 (ix4 b s h e))
    (hk : ∀ (a : Fin 256) (e : Fin 128), k (ix2 a e) = val_main_v155 (F := Ideal) x1 (ix4 b a h e))
    (hv : ∀ (a : Fin 256) (e : Fin 128), v (ix2 a e) = val_main_v157 (F := Ideal) x2 (ix4 b a h e)) (e : Fin 128) :
    memHead (F := Ideal) q k v (ix2 r e) = val_main_v173 (F := Ideal) x0 x1 x2 x3 x4 (ix4 b s h e) := by
  have hz := memScore_at x0 x1 x3 x4 q k b s r h hq hk
  unfold memHead
  generalize (mulf (matmul _ none q k _) _ : FVec Ideal S256x256 .f32) = z at hz ⊢
  pointwise
  simp only [hz, hv, memOut_at, memExp_at, memSum_at, memShift_at]
  exact Finset.sum_congr rfl fun _ _ => mul_comm _ _

end Cert.KernelIdeal.Layer

end
-- ==== Proof.MemStores.lean ====
module

public import proofs.«01_k».proof.Proof.Gen.KernelIdeal.Value
public import proofs.«01_k».proof.Proof.Gen.ReferenceIdeal.Read
public import proofs.«01_k».proof.Proof.Layout
public import proofs.«01_k».proof.Proof.MemHead
public import Idealize.ShloMosaic.Lib.Pipeline.ValueKit
public import Idealize.ShloMosaic.Lib.Pointwise

/-!
# The four stores of a tile's memory attention

The body stores each memory head's output at its own columns of one buffer; read back, the buffer is the tile's rows of the
reference's merged memory output.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The stores of the four outputs, the last one first. -/
def memStores (XN : FVec Ideal S256x1024 .bf16) (W : Vec Ideal S1024x512 .bf16) (k0 k1 k2 k3 v0 v1 v2 v3 : Vec Ideal S1x256x128 .bf16) :
    List (View.Piece (Elt Ideal) S256x512 .bf16) :=
  [⟨Rect.unit ![0, 384] ![256, 128] inb_S256x512_S256x128_0_384, k0_pay90 (k0_pay89 (k0_pay83 XN W) k3) v3⟩,
   ⟨Rect.unit ![0, 256] ![256, 128] inb_S256x512_S256x128_0_256, k0_pay88 (k0_pay83 XN W) k2 v2⟩,
   ⟨Rect.unit ![0, 128] ![256, 128] inb_S256x512_S256x128_0_128, k0_pay87 (k0_pay83 XN W) k1 v1⟩,
   ⟨Rect.unit ![0, 0] ![256, 128] inb_S256x512_S256x128_0_0, k0_pay86 (k0_pay84 XN W k0) (k0_pay85 XN W k0) v0⟩]

variable (x0 : FVec Ideal S2x8192x1024 .f32) (x1 x2 : FVec Ideal S2x256x512 .bf16) (x3 : FVec Ideal S1x1024 .f32)
  (x4 : FVec Ideal S1x1024x5376 .f32)
variable (b : Fin 2) (N : Fin 32)

/-- One memory head, from the whole tile's queries: the head's columns are `h * 128 …`. -/
theorem mem_piece (Q : FVec Ideal S256x512 .bf16)
    (hQ : ∀ (r : Fin 256) (s : Fin 8192), s.val = N.val * 256 + r.val → ∀ j,
      Q (ix2 r j) = val_main_v22 (F := Ideal) x0 x3 x4 (ix3 b s j))
    (h : Fin 4) (q : FVec Ideal S256x128 .bf16) (K V : Vec Ideal S1x256x128 .bf16)
    (hK : ∀ (a : Fin 256) (e : Fin 128) (j : Fin 512), j.val = h.val * 128 + e.val → K (ix3 0 a e) = x1 (ix3 b a j))
    (hV : ∀ (a : Fin 256) (e : Fin 128) (j : Fin 512), j.val = h.val * 128 + e.val → V (ix3 0 a e) = x2 (ix3 b a j))
    (hq : ∀ (i : Fin 256) (e : Fin 128) (j : Fin 512), j.val = h.val * 128 + e.val → q (ix2 i e) = Q (ix2 i j))
    (x : S256x128.Idx) (y : S256x512.Idx) (e0 : (y 0).val = (x 0).val) (e1 : (y 1).val = h.val * 128 + (x 1).val)
    (s : Fin 8192) (hs : s.val = N.val * 256 + (y 0).val) (hsk hsv) :
    memHead q (shapeCast S256x128 K hsk) (shapeCast S256x128 V hsv) x
      = val_main_v174 (F := Ideal) x0 x1 x2 x3 x4 (ix3 b s (y 1)) := by
  obtain ⟨i, e, rfl⟩ : ∃ i e, x = ix2 i e := ⟨x 0, x 1, (ix2_eta x).symm⟩
  have e0' : (y 0).val = i.val := e0
  have e1' : (y 1).val = h.val * 128 + e.val := e1
  rw [mem_out x0 x1 x2 x3 x4 b s (y 1) h e e1']
  refine memHead_at x0 x1 x2 x3 x4 q _ _ b s i h ?_ ?_ ?_ e
  · intro e'
    rw [hq i e' ⟨h.val * 128 + e'.val, by omega⟩ rfl, hQ i s (by omega)]
    exact (mem_q x0 x3 x4 b s _ h e' rfl).symm
  · intro a e'
    rw [mem_k x1 b a ⟨h.val * 128 + e'.val, by omega⟩ h e' rfl, ← hK a e' _ rfl]
    pointwise
  · intro a e'
    rw [mem_v x2 b a ⟨h.val * 128 + e'.val, by omega⟩ h e' rfl, ← hV a e' _ rfl]
    pointwise

/-- Columns cut out of a tile's array. -/
theorem cut_mem (Q : FVec Ideal S256x512 .bf16) (c : ℕ) (hsl : S256x512.Slices ![0, c] S256x128) (i : Fin 256) (e : Fin 128)
    (j : Fin 512) (hj : j.val = c + e.val) : extractStridedSlice S256x128 ![0, c] Q hsl (ix2 i e) = Q (ix2 i j) := by
  refine extractStridedSlice_apply _ Q hsl _ _ fun a => ?_
  match a with
  | ⟨0, _⟩ => exact (Nat.zero_add _).symm
  | ⟨1, _⟩ => exact hj

/-- The buffer of the four outputs, read at an index. -/
theorem mem_stores (XN : FVec Ideal S256x1024 .bf16) (W : Vec Ideal S1024x512 .bf16)
    (k0 k1 k2 k3 v0 v1 v2 v3 : Vec Ideal S1x256x128 .bf16)
    (hQ : ∀ (r : Fin 256) (s : Fin 8192), s.val = N.val * 256 + r.val → ∀ j,
      k0_pay83 XN W (ix2 r j) = val_main_v22 (F := Ideal) x0 x3 x4 (ix3 b s j))
    (hk0 : ∀ (a : Fin 256) (e : Fin 128) (j : Fin 512), j.val = 0 * 128 + e.val → k0 (ix3 0 a e) = x1 (ix3 b a j))
    (hk1 : ∀ (a : Fin 256) (e : Fin 128) (j : Fin 512), j.val = 1 * 128 + e.val → k1 (ix3 0 a e) = x1 (ix3 b a j))
    (hk2 : ∀ (a : Fin 256) (e : Fin 128) (j : Fin 512), j.val = 2 * 128 + e.val → k2 (ix3 0 a e) = x1 (ix3 b a j))
    (hk3 : ∀ (a : Fin 256) (e : Fin 128) (j : Fin 512), j.val = 3 * 128 + e.val → k3 (ix3 0 a e) = x1 (ix3 b a j))
    (hv0 : ∀ (a : Fin 256) (e : Fin 128) (j : Fin 512), j.val = 0 * 128 + e.val → v0 (ix3 0 a e) = x2 (ix3 b a j))
    (hv1 : ∀ (a : Fin 256) (e : Fin 128) (j : Fin 512), j.val = 1 * 128 + e.val → v1 (ix3 0 a e) = x2 (ix3 b a j))
    (hv2 : ∀ (a : Fin 256) (e : Fin 128) (j : Fin 512), j.val = 2 * 128 + e.val → v2 (ix3 0 a e) = x2 (ix3 b a j))
    (hv3 : ∀ (a : Fin 256) (e : Fin 128) (j : Fin 512), j.val = 3 * 128 + e.val → v3 (ix3 0 a e) = x2 (ix3 b a j))
    (y : S256x512.Idx) (s : Fin 8192) (hs : s.val = N.val * 256 + (y 0).val) :
    View.canon (memStores XN W k0 k1 k2 k3 v0 v1 v2 v3) y = val_main_v174 (F := Ideal) x0 x1 x2 x3 x4 (ix3 b s (y 1)) := by
  have piece := mem_piece x0 x1 x2 x3 x4 b N _ hQ
  unfold memStores
  canon_tiles x h
  all_goals simp only [k0_pay90, k0_pay89, k0_pay88, k0_pay87, k0_pay86, k0_pay85, k0_pay84, shapeCast_self]
  · exact piece 3 _ k3 v3 hk3 hv3 (cut_mem _ _ _) x y h0 h1 s hs _ _
  · exact piece 2 _ k2 v2 hk2 hv2 (cut_mem _ _ _) x y h0 h1 s hs _ _
  · exact piece 1 _ k1 v1 hk1 hv1 (cut_mem _ _ _) x y h0 h1 s hs _ _
  · exact piece 0 _ k0 v0 hk0 hv0 (cut_mem _ _ _) x y h0 (h1.trans (Nat.zero_add _).symm) s hs _ _

end Cert.KernelIdeal.Layer

end
-- ==== Proof.ProjB.lean ====
module

public import proofs.«01_k».proof.Proof.Proj
public import Idealize.ShloMosaic.Lib.Pipeline.ValueKit
public import Idealize.ShloMosaic.Lib.Pointwise
public import Idealize.ShloMosaic.PureOps.Ideal.Laws

/-!
# The chunk gate's two halves in a tile
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ)
variable (c : Dev nD) (t : Fin cfg0.N) (b : Fin 2) (s : Fin 8192) (r : Fin 256)
variable (hb : b.val = t.val / 32) (hs : s.val = t.val % 32 * 256 + r.val)

include hb hs

/-- The columns of the chunk gate, after the exact GELU: the kernel writes it with the error function, the reference with
its complement at the negated argument. -/
theorem gelu_at (j : Fin 1024) :
    k0_pay63 (F := Ideal) (k0_pay5 (iblk m c 1 t) (iblk m c 4 t)) (View.ld (iblk m c 5 t) (Rect.unit ![0, 768] ![1024, 1024] inb_S1024x5376_S1024x1024_0_768)) (ix2 r j)
      = val_main_v30 (F := Ideal) (m ((c.tc : Thread nD τ).loc main_arg0)) (m ((c.tc : Thread nD τ).loc main_arg3)) (m ((c.tc : Thread nD τ).loc main_arg4)) (ix3 b s j) := by
  pointwise [k0_pay63, val_main_v30, val_main_v29, val_main_v28, val_main_v27, val_main_v26, val_main_v25, val_main_v24,
    val_main_cst_2, val_main_cst_3, val_main_v20, val_main_v19, val_main_v15, val_main_v14]
  simp only [xn_at m c t b s r hb hs, neg_mul, Ideal.erfc_neg, Ideal.erf_def]
  blk_point [iblk, V, idx t]

/-- The gating half. -/
theorem u_at (j : Fin 512) :
    k0_pay64 (F := Ideal) (k0_pay5 (iblk m c 1 t) (iblk m c 4 t)) (View.ld (iblk m c 5 t) (Rect.unit ![0, 768] ![1024, 1024] inb_S1024x5376_S1024x1024_0_768)) (ix2 r j)
      = val_main_v31 (F := Ideal) (m ((c.tc : Thread nD τ).loc main_arg0)) (m ((c.tc : Thread nD τ).loc main_arg3)) (m ((c.tc : Thread nD τ).loc main_arg4)) (ix3 b s j) := by
  pointwise [k0_pay64, val_main_v31]
  simp only [gelu_at m c t b s r hb hs]

/-- The normalized gated half. -/
theorem vc_at (j : Fin 512) :
    k0_pay65 (F := Ideal) (k0_pay5 (iblk m c 1 t) (iblk m c 4 t)) (View.ld (iblk m c 5 t) (Rect.unit ![0, 768] ![1024, 1024] inb_S1024x5376_S1024x1024_0_768)) (iblk m c 6 t) (ix2 r j)
      = val_main_v46 (F := Ideal) (m ((c.tc : Thread nD τ).loc main_arg0)) (m ((c.tc : Thread nD τ).loc main_arg3)) (m ((c.tc : Thread nD τ).loc main_arg4)) (m ((c.tc : Thread nD τ).loc main_arg7)) (ix3 b s j) := by
  pointwise [k0_pay65, val_main_v46, val_main_v45, val_main_v44, val_main_v43, val_main_v42, val_main_v41, val_main_v40,
    val_main_v39, val_main_v38, val_main_v37, val_main_v36, val_main_v35, val_main_v34, val_main_v33, val_main_v32,
    val_main_cst_4, val_main_cst_5, val_main_cst_6]
  simp only [gelu_at m c t b s r hb hs]
  blk_point [iblk, V, idx t]

end Cert.KernelIdeal.Layer

end
-- ==== Proof.ProjC.lean ====
module

public import proofs.«01_k».proof.Proof.Proj
public import Idealize.ShloMosaic.Lib.Pipeline.ValueKit
public import Idealize.ShloMosaic.Lib.Pointwise

/-!
# The memory queries and the gate logits of a tile
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ)
variable (c : Dev nD) (t : Fin cfg0.N) (b : Fin 2) (s : Fin 8192) (r : Fin 256)
variable (hb : b.val = t.val / 32) (hs : s.val = t.val % 32 * 256 + r.val)

include hb hs

/-- The memory queries. -/
theorem qm_at (j : Fin 512) :
    k0_pay83 (F := Ideal) (k0_pay5 (iblk m c 1 t) (iblk m c 4 t)) (View.ld (iblk m c 5 t) (Rect.unit ![0, 1792] ![1024, 512] inb_S1024x5376_S1024x512_0_1792)) (ix2 r j)
      = val_main_v22 (F := Ideal) (m ((c.tc : Thread nD τ).loc main_arg0)) (m ((c.tc : Thread nD τ).loc main_arg3)) (m ((c.tc : Thread nD τ).loc main_arg4)) (ix3 b s j) := by
  pointwise [k0_pay83, val_main_v22, val_main_v21, val_main_v19, val_main_v15, val_main_v14]
  simp only [xn_at m c t b s r hb hs]
  blk_point [iblk, V, idx t]

/-- The first branch's gate logits. -/
theorem gl0_at (j : Fin 1024) :
    k0_pay93 (F := Ideal) (k0_pay5 (iblk m c 1 t) (iblk m c 4 t)) (View.ld (iblk m c 5 t) (Rect.unit ![0, 2304] ![1024, 1024] inb_S1024x5376_S1024x1024_0_2304)) (ix2 r j)
      = val_main_v23 (F := Ideal) (m ((c.tc : Thread nD τ).loc main_arg0)) (m ((c.tc : Thread nD τ).loc main_arg3)) (m ((c.tc : Thread nD τ).loc main_arg4)) (ix3 b s ⟨j.val, by omega⟩) := by
  pointwise [k0_pay93, val_main_v23, val_main_v21, val_main_v19, val_main_v15, val_main_v14]
  simp only [xn_at m c t b s r hb hs]
  blk_point [iblk, V, idx t]

/-- The second branch's gate logits. -/
theorem gl1_at (j : Fin 1024) :
    k0_pay93 (F := Ideal) (k0_pay5 (iblk m c 1 t) (iblk m c 4 t)) (View.ld (iblk m c 5 t) (Rect.unit ![0, 3328] ![1024, 1024] inb_S1024x5376_S1024x1024_0_3328)) (ix2 r j)
      = val_main_v23 (F := Ideal) (m ((c.tc : Thread nD τ).loc main_arg0)) (m ((c.tc : Thread nD τ).loc main_arg3)) (m ((c.tc : Thread nD τ).loc main_arg4)) (ix3 b s ⟨1024 + j.val, by omega⟩) := by
  pointwise [k0_pay93, val_main_v23, val_main_v21, val_main_v19, val_main_v15, val_main_v14]
  simp only [xn_at m c t b s r hb hs]
  blk_point [iblk, V, idx t]

/-- The third branch's gate logits. -/
theorem gl2_at (j : Fin 1024) :
    k0_pay93 (F := Ideal) (k0_pay5 (iblk m c 1 t) (iblk m c 4 t)) (View.ld (iblk m c 5 t) (Rect.unit ![0, 4352] ![1024, 1024] inb_S1024x5376_S1024x1024_0_4352)) (ix2 r j)
      = val_main_v23 (F := Ideal) (m ((c.tc : Thread nD τ).loc main_arg0)) (m ((c.tc : Thread nD τ).loc main_arg3)) (m ((c.tc : Thread nD τ).loc main_arg4)) (ix3 b s ⟨2048 + j.val, by omega⟩) := by
  pointwise [k0_pay93, val_main_v23, val_main_v21, val_main_v19, val_main_v15, val_main_v14]
  simp only [xn_at m c t b s r hb hs]
  blk_point [iblk, V, idx t]

end Cert.KernelIdeal.Layer

end
-- ==== Proof.Blocks.lean ====
module

public import proofs.«01_k».proof.Proof.Gen.KernelIdeal.Value
public import proofs.«01_k».proof.Proof.Gen.ReferenceIdeal.Read
public import proofs.«01_k».proof.Proof.Proj
public import Idealize.ShloMosaic.Lib.Pipeline.ValueKit
public import Idealize.ShloMosaic.Lib.Pointwise

/-!
# Input blocks the host lays out anew

The sinks come as one row flattened, the chunk biases transposed. A grid point's block of either is the argument's element.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The chunk weights without their leading axis. -/
theorem flat_w (x : FVec Ideal S1x4x128x128 .f32) (g : Fin 4) (i a : Fin 128) :
    shapeCast S4x128x128 x shapeCasts_S1x4x128x128_S4x128x128 (ix3 g i a) = x (ix4 0 g i a) := by
  refine shapeCast_apply _ _ _ _ ?_
  rewrite [Shape.rowMajor_val_four, Shape.rowMajor_val_three]
  show ((0 * 4 + g.val) * 128 + i.val) * 128 + a.val = (g.val * 128 + i.val) * 128 + a.val
  omega

/-- The branch projections without their leading axis. -/
theorem flat_p (x : FVec Ideal S1x3x512x1024 .f32) (k : Fin 3) (d : Fin 512) (j : Fin 1024) :
    shapeCast S3x512x1024 x shapeCasts_S1x3x512x1024_S3x512x1024 (ix3 k d j) = x (ix4 0 k d j) := by
  refine shapeCast_apply _ _ _ _ ?_
  rewrite [Shape.rowMajor_val_four, Shape.rowMajor_val_three]
  show ((0 * 3 + k.val) * 512 + d.val) * 1024 + j.val = (k.val * 512 + d.val) * 1024 + j.val
  omega

variable (m : (ℓ : Loc nD τ sig) → Buf (Elt Ideal) ℓ) (c : Dev nD) (t : Fin cfg0.N)

/-- The sinks. -/
theorem sinks_block (h : Fin 8) : (iblk m c 0 t : FVec Ideal S8 .f32) (ix1 h) = (m ((c.tc : Thread nD τ).loc main_arg6) : FVec Ideal S1x8 .f32) (ix2 0 h) :=
  (show (iblk m c 0 t : FVec Ideal S8 .f32) (ix1 h) = shapeCast S8 (m ((c.tc : Thread nD τ).loc main_arg6) : FVec Ideal S1x8 .f32) shapeCasts_S1x8_S8 (ix1 h) by
    blk_point [iblk, V, idx t]).trans (by pointwise)

/-- The chunk biases. -/
theorem bias_block (i : Fin 128) (g : Fin 4) : (iblk m c 8 t : FVec Ideal S128x4 .f32) (ix2 i g)
    = (m ((c.tc : Thread nD τ).loc main_arg9) : FVec Ideal S1x4x128 .f32) (ix3 0 g i) :=
  (show (iblk m c 8 t : FVec Ideal S128x4 .f32) (ix2 i g) = transpose S128x4 [1, 0]
      (fun j : S4x128.Idx => (m ((c.tc : Thread nD τ).loc main_arg9) : FVec Ideal S1x4x128 .f32) (ix3 0 (j 0) (j 1)))
      transposes_S4x128_S128x4_1_0 (ix2 i g) by
    blk_point [iblk, V, idx t]).trans (by pointwise)

/-- A load of one sink. -/
theorem sinks_load (h : Fin 8) (o : ℕ) (ho : h.val = o) (inb) (i : S1.Idx) :
    View.ld (iblk m c 0 t : FVec Ideal S8 .f32) (Rect.unit (s := S8) ![o] ![1] inb) i
      = (m ((c.tc : Thread nD τ).loc main_arg6) : FVec Ideal S1x8 .f32) (ix2 0 h) := by
  refine (View.ld_unit_apply_of _ _ _ _ _ (ix1 h) fun a => ?_).trans (sinks_block m c t h)
  match a with
  | ⟨0, _⟩ =>
    have hi : (i 0).val < 1 := (i 0).isLt
    show h.val = o + (i 0).val
    omega

/-- A load of one group's biases. -/
theorem bias_load (g : Fin 4) (o : ℕ) (ho : g.val = o) (inb) (i : Fin 128) :
    View.ld (iblk m c 8 t : FVec Ideal S128x4 .f32) (Rect.unit (s := S128x4) ![0, o] ![128, 1] inb) (ix2 i 0)
      = (m ((c.tc : Thread nD τ).loc main_arg9) : FVec Ideal S1x4x128 .f32) (ix3 0 g i) := by
  refine (View.ld_unit_apply_of _ _ _ _ _ (ix2 i g) fun a => ?_).trans (bias_block m c t i g)
  match a with
  | ⟨0, _⟩ => exact (Nat.zero_add _).symm
  | ⟨1, _⟩ => exact ho

/-- A load of one group's chunk weights. -/
theorem chunk_load_w (g : Fin 4) (o : ℕ) (ho : g.val = o) (inb) (i a : Fin 128) :
    View.ld (iblk m c 7 t : FVec Ideal S4x128x128 .f32) (Rect.unit (s := S4x128x128) ![o, 0, 0] ![1, 128, 128] inb) (ix3 0 i a)
      = (m ((c.tc : Thread nD τ).loc main_arg8) : FVec Ideal S1x4x128x128 .f32) (ix4 0 g i a) := by
  refine (View.ld_unit_apply_of _ _ _ _ _ (ix3 g i a) fun q => ?_).trans
    ((show (iblk m c 7 t : FVec Ideal S4x128x128 .f32) (ix3 g i a) = shapeCast S4x128x128
      (m ((c.tc : Thread nD τ).loc main_arg8) : FVec Ideal S1x4x128x128 .f32) shapeCasts_S1x4x128x128_S4x128x128 (ix3 g i a) by
    blk_point [iblk, V, idx t]).trans (flat_w _ g i a))
  match q with
  | ⟨0, _⟩ => exact ho
  | ⟨1, _⟩ => exact (Nat.zero_add _).symm
  | ⟨2, _⟩ => exact (Nat.zero_add _).symm

/-- A load of one branch's gate biases. -/
theorem gate_load_b (k : Fin 3) (o : ℕ) (ho : k.val = o) (inb) (j : Fin 1024) :
    View.ld (iblk m c 9 t : FVec Ideal S3x1024 .f32) (Rect.unit (s := S3x1024) ![o, 0] ![1, 1024] inb) (ix2 0 j)
      = (m ((c.tc : Thread nD τ).loc main_arg5) : FVec Ideal S1x3x1024 .f32) (ix3 0 k j) := by
  refine (View.ld_unit_apply_of _ _ _ _ _ (ix2 k j) fun q => ?_).trans
    (show (iblk m c 9 t : FVec Ideal S3x1024 .f32) (ix2 k j) = _ by blk_point [iblk, V, idx t])
  match q with
  | ⟨0, _⟩ => exact ho
  | ⟨1, _⟩ => exact (Nat.zero_add _).symm

/-- A load of one branch's projection. -/
theorem branch_load_p (k : Fin 3) (o : ℕ) (ho : k.val = o) (inb) (d : Fin 512) (j : Fin 1024) :
    View.ld (iblk m c 10 t : FVec Ideal S3x512x1024 .bf16) (Rect.unit (s := S3x512x1024) ![o, 0, 0] ![1, 512, 1024] inb) (ix3 0 d j)
      = (m ((c.tc : Thread nD τ).loc main_arg10) : FVec Ideal S1x3x512x1024 .f32) (ix4 0 k d j) := by
  refine (View.ld_unit_apply_of _ _ _ _ _ (ix3 k d j) fun q => ?_).trans
    ((show (iblk m c 10 t : FVec Ideal S3x512x1024 .bf16) (ix3 k d j) = shapeCast S3x512x1024
      (m ((c.tc : Thread nD τ).loc main_arg10) : FVec Ideal S1x3x512x1024 .f32) shapeCasts_S1x3x512x1024_S3x512x1024 (ix3 k d j) by
    blk_point [iblk, V, idx t]).trans (flat_p _ k d j))
  match q with
  | ⟨0, _⟩ => exact ho
  | ⟨1, _⟩ => exact (Nat.zero_add _).symm
  | ⟨2, _⟩ => exact (Nat.zero_add _).symm

/-- The output projection. -/
theorem out_block (i j : Fin 1024) : (iblk m c 11 t : FVec Ideal S1024x1024 .bf16) (ix2 i j)
    = (m ((c.tc : Thread nD τ).loc main_arg11) : FVec Ideal S1x1024x1024 .f32) (ix3 0 i j) := by
  blk_point [iblk, V, idx t]

/-- The output gain. -/
theorem gain_block (j : Fin 1024) : (iblk m c 12 t : FVec Ideal S1x1024 .f32) (ix2 0 j)
    = (m ((c.tc : Thread nD τ).loc main_arg12) : FVec Ideal S1x1024 .f32) (ix2 0 j) := by
  blk_point [iblk, V, idx t]

/-- A token row. -/
theorem token_block (b : Fin 2) (s : Fin 8192) (r : Fin 256) (hb : b.val = t.val / 32) (hs : s.val = t.val % 32 * 256 + r.val)
    (j : Fin 1024) : (iblk m c 1 t : FVec Ideal S256x1024 .f32) (ix2 r j)
    = (m ((c.tc : Thread nD τ).loc main_arg0) : FVec Ideal S2x8192x1024 .f32) (ix3 b s j) := by
  blk_point [iblk, V, idx t]

end Cert.KernelIdeal.Layer

end
-- ==== Proof.Buffers.lean ====
module

public import proofs.«01_k».proof.Proof.Gen.KernelIdeal.Value
public import proofs.«01_k».proof.Proof.Gen.ReferenceIdeal.Read
public import proofs.«01_k».proof.Proof.SwaStores
public import proofs.«01_k».proof.Proof.ChunkStores
public import proofs.«01_k».proof.Proof.MemStores
public import proofs.«01_k».proof.Proof.ProjA
public import proofs.«01_k».proof.Proof.ProjB
public import proofs.«01_k».proof.Proof.ProjC
public import proofs.«01_k».proof.Proof.Blocks
public import Idealize.ShloMosaic.Lib.Pipeline.ValueKit
public import Idealize.ShloMosaic.Lib.Pointwise

/-!
# The three branch buffers of a grid point

Each branch stores its heads' outputs in one buffer, which the body then loads whole. Read at a row, the load is the
reference's merged output of the branch. The sliding-window branch also takes the previous tile's last keys and values.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- A load of a whole buffer. -/
abbrev loaded (v : View sig .tc .vmem S256x512 .bf16) (L : List (View.Piece (Elt Ideal) S256x512 .bf16)) :
    FVec Ideal S256x512 .bf16 :=
  (v.readCov L (Rect.unit (s := S256x512) (![0, 0] : Fin 2 → ℕ) (![256, 512] : Fin 2 → ℕ) inb_S256x512_S256x512_0_0).toLoadRect :)

/-- A load of a whole buffer, at an index, is what the stores left there. -/
theorem whole_load (v : View sig .tc .vmem S256x512 .bf16) (L : List (View.Piece (Elt Ideal) S256x512 .bf16)) (r : Fin 256) (d : Fin 512) :
    loaded v L (ix2 r d) = View.canon L (ix2 r d) := by
  unfold loaded
  rw [View.readCov_eq_canon']
  refine congrArg (View.canon L) (funext fun a => Fin.ext ?_)
  refine (Rect.idx_unit_val _ _ _ _ _).trans ?_
  match a with
  | ⟨0, _⟩ => exact Nat.zero_add _
  | ⟨1, _⟩ => exact Nat.zero_add _

variable (m : (ℓ : Loc nD τ sig) → Buf (Elt Ideal) ℓ) (c : Dev nD) (t : Fin cfg0.N) (b : Fin 2) (N : Fin 32)
  (hb : b.val = t.val / 32) (hN : N.val = t.val % 32)

include hb hN

/-- The memory branch. -/
theorem mem_load (r : Fin 256) (s : Fin 8192) (hs : s.val = N.val * 256 + r.val) (d : Fin 512) :
    loaded (View.whole cc0_scratch4) (memStores (k0_pay5 (iblk m c 1 t) (iblk m c 4 t))
      (View.ld (iblk m c 5 t) (Rect.unit ![0, 1792] ![1024, 512] inb_S1024x5376_S1024x512_0_1792))
      (View.ld (iblk m c 2 t) (Rect.unit ![0, 0, 0] ![1, 256, 128] inb_S1x256x512_S1x256x128_0_0_0))
      (View.ld (iblk m c 2 t) (Rect.unit ![0, 0, 128] ![1, 256, 128] inb_S1x256x512_S1x256x128_0_0_128))
      (View.ld (iblk m c 2 t) (Rect.unit ![0, 0, 256] ![1, 256, 128] inb_S1x256x512_S1x256x128_0_0_256))
      (View.ld (iblk m c 2 t) (Rect.unit ![0, 0, 384] ![1, 256, 128] inb_S1x256x512_S1x256x128_0_0_384))
      (View.ld (iblk m c 3 t) (Rect.unit ![0, 0, 0] ![1, 256, 128] inb_S1x256x512_S1x256x128_0_0_0))
      (View.ld (iblk m c 3 t) (Rect.unit ![0, 0, 128] ![1, 256, 128] inb_S1x256x512_S1x256x128_0_0_128))
      (View.ld (iblk m c 3 t) (Rect.unit ![0, 0, 256] ![1, 256, 128] inb_S1x256x512_S1x256x128_0_0_256))
      (View.ld (iblk m c 3 t) (Rect.unit ![0, 0, 384] ![1, 256, 128] inb_S1x256x512_S1x256x128_0_0_384))) (ix2 r d)
      = val_main_v174 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (ix3 b s d) := by
  refine (whole_load _ _ r d).trans ?_
  refine mem_stores _ _ _ _ _ b N _ _ _ _ _ _ _ _ _ _ (fun r s hs j => qm_at m c t b s r hb (by omega) j) ?_ ?_ ?_ ?_ ?_ ?_ ?_ ?_
    (ix2 r d) s hs
  all_goals
    intro a e j hj
    blk_point [iblk, V, idx t]

/-- The chunk branch. -/
theorem chunk_load (r : Fin 256) (s : Fin 8192) (hs : s.val = N.val * 256 + r.val) (d : Fin 512) :
    loaded (View.whole cc0_scratch3) (chunkStores (k0_pay5 (iblk m c 1 t) (iblk m c 4 t))
      (View.ld (iblk m c 5 t) (Rect.unit ![0, 768] ![1024, 1024] inb_S1024x5376_S1024x1024_0_768)) (iblk m c 6 t)
      (View.ld (iblk m c 7 t) (Rect.unit ![0, 0, 0] ![1, 128, 128] inb_S4x128x128_S1x128x128_0_0_0))
      (View.ld (iblk m c 7 t) (Rect.unit ![1, 0, 0] ![1, 128, 128] inb_S4x128x128_S1x128x128_1_0_0))
      (View.ld (iblk m c 7 t) (Rect.unit ![2, 0, 0] ![1, 128, 128] inb_S4x128x128_S1x128x128_2_0_0))
      (View.ld (iblk m c 7 t) (Rect.unit ![3, 0, 0] ![1, 128, 128] inb_S4x128x128_S1x128x128_3_0_0))
      (View.ld (iblk m c 8 t) (Rect.unit ![0, 0] ![128, 1] inb_S128x4_S128x1_0_0))
      (View.ld (iblk m c 8 t) (Rect.unit ![0, 1] ![128, 1] inb_S128x4_S128x1_0_1))
      (View.ld (iblk m c 8 t) (Rect.unit ![0, 2] ![128, 1] inb_S128x4_S128x1_0_2))
      (View.ld (iblk m c 8 t) (Rect.unit ![0, 3] ![128, 1] inb_S128x4_S128x1_0_3))) (ix2 r d)
      = val_main_v152 (F := Ideal) (m ((c.tc : Thread nD τ).loc main_arg0)) (m ((c.tc : Thread nD τ).loc main_arg3))
        (m ((c.tc : Thread nD τ).loc main_arg4)) (m ((c.tc : Thread nD τ).loc main_arg7))
        (m ((c.tc : Thread nD τ).loc main_arg8)) (m ((c.tc : Thread nD τ).loc main_arg9)) (ix3 b s d) := by
  refine (whole_load _ _ r d).trans ?_
  refine chunk_stores _ _ _ _ _ _ b N _ _ _ _ _ _ _ _ _ _ _ ⟨N.val * 2, by omega⟩ ⟨N.val * 2 + 1, by omega⟩ rfl rfl
    (fun r s hs j => u_at m c t b s r hb (by omega) j) (fun r s hs j => vc_at m c t b s r hb (by omega) j) ?_ ?_ ?_ ?_ ?_ ?_ ?_ ?_
    (ix2 r d) s hs
  · exact fun i a => chunk_load_w m c t 0 _ rfl _ i a
  · exact fun i a => chunk_load_w m c t 1 _ rfl _ i a
  · exact fun i a => chunk_load_w m c t 2 _ rfl _ i a
  · exact fun i a => chunk_load_w m c t 3 _ rfl _ i a
  · exact fun i => bias_load m c t 0 _ rfl _ i
  · exact fun i => bias_load m c t 1 _ rfl _ i
  · exact fun i => bias_load m c t 2 _ rfl _ i
  · exact fun i => bias_load m c t 3 _ rfl _ i

/-- The sliding-window branch: `kp` and `vp` hold the 128 tokens before the tile, zeros before the sequence. -/
theorem swa_load (kp vp : FVec Ideal S128x128 .bf16) (flag : BitVec 1) (hf : flag = if t.val % 32 = 0 then 1#1 else 0#1)
    (hk0 : N.val = 0 → ∀ a j, kp (ix2 a j) = (0 : EReal))
    (hk : ∀ (a : Fin 128) (s : Fin 8192), s.val + 128 = N.val * 256 + a.val → ∀ j, kp (ix2 a j)
      = val_main_v17 (F := Ideal) (m ((c.tc : Thread nD τ).loc main_arg0)) (m ((c.tc : Thread nD τ).loc main_arg3))
        (m ((c.tc : Thread nD τ).loc main_arg4)) (ix3 b s j))
    (hv0 : N.val = 0 → ∀ a j, vp (ix2 a j) = (0 : EReal))
    (hv : ∀ (a : Fin 128) (s : Fin 8192), s.val + 128 = N.val * 256 + a.val → ∀ j, vp (ix2 a j)
      = val_main_v18 (F := Ideal) (m ((c.tc : Thread nD τ).loc main_arg0)) (m ((c.tc : Thread nD τ).loc main_arg3))
        (m ((c.tc : Thread nD τ).loc main_arg4)) (ix3 b s j))
    (i0 i1 i2 i3 i4 i5 i6 i7 : S1.Idx)
    (r : Fin 256) (s : Fin 8192) (hs : s.val = N.val * 256 + r.val) (d : Fin 512) :
    loaded (View.whole cc0_scratch2) (swaStores
      (k0_pay6 (iblk m c 1 t) (iblk m c 4 t) (View.ld (iblk m c 5 t) (Rect.unit ![0, 0] ![1024, 512] inb_S1024x5376_S1024x512_0_0)))
      (k0_pay7 (iblk m c 1 t) (iblk m c 4 t) (View.ld (iblk m c 5 t) (Rect.unit ![0, 512] ![1024, 128] inb_S1024x5376_S1024x128_0_512)))
      kp
      (k0_pay18 (k0_pay5 (iblk m c 1 t) (iblk m c 4 t)) (View.ld (iblk m c 5 t) (Rect.unit ![0, 640] ![1024, 128] inb_S1024x5376_S1024x128_0_640)) vp)
      (k0_pay41 (k0_pay12 (k0_pay5 (iblk m c 1 t) (iblk m c 4 t)) (View.ld (iblk m c 5 t) (Rect.unit ![0, 640] ![1024, 128] inb_S1024x5376_S1024x128_0_640))))
      flag
      (View.ld (iblk m c 0 t) (Rect.unit ![0] ![1] inb_S8_S1_0) i0) (View.ld (iblk m c 0 t) (Rect.unit ![1] ![1] inb_S8_S1_1) i1)
      (View.ld (iblk m c 0 t) (Rect.unit ![2] ![1] inb_S8_S1_2) i2) (View.ld (iblk m c 0 t) (Rect.unit ![3] ![1] inb_S8_S1_3) i3)
      (View.ld (iblk m c 0 t) (Rect.unit ![4] ![1] inb_S8_S1_4) i4) (View.ld (iblk m c 0 t) (Rect.unit ![5] ![1] inb_S8_S1_5) i5)
      (View.ld (iblk m c 0 t) (Rect.unit ![6] ![1] inb_S8_S1_6) i6) (View.ld (iblk m c 0 t) (Rect.unit ![7] ![1] inb_S8_S1_7) i7)) (ix2 r d)
      = val_main_v139 (F := Ideal) (m ((c.tc : Thread nD τ).loc main_arg0)) (m ((c.tc : Thread nD τ).loc main_arg3))
        (m ((c.tc : Thread nD τ).loc main_arg4)) (m ((c.tc : Thread nD τ).loc main_arg6)) (ix3 b s d) := by
  refine (whole_load _ _ r d).trans ?_
  refine swa_stores _ _ _ _ _ _ _ _ _ _ _ _ _ _ _ _ _ _ b N ⟨N.val * 2, by omega⟩ ⟨N.val * 2 + 1, by omega⟩ rfl rfl
    (fun r s hs j => q_at m c t b s r hb (by omega) j)
    (fun a kv e j hj => key_first _ _ _ _ _ b N (fun r s hs j => k_at m c t b s r hb (by omega) j) hk0 hk _ rfl a kv e j hj)
    (fun a kv e j hj => value_first _ _ _ _ _ _ b N (fun r s hs j => v_at m c t b s r hb (by omega) j) hv0 hv _ rfl a kv e j hj)
    (fun a kv e j hj => key_second _ _ _ _ b N (fun r s hs j => k_at m c t b s r hb (by omega) j) _ rfl a kv e j hj)
    (fun a kv e j hj => value_second _ _ _ _ _ b N (fun r s hs j => v_at m c t b s r hb (by omega) j) _ rfl a kv e j hj)
    ?_ ?_ ?_ ?_ ?_ ?_ ?_ ?_ ?_ (ix2 r d) s hs
  · rw [hf]
    refine if_congr ?_ rfl rfl
    show _ ↔ N.val * 2 = 0
    omega
  · exact sinks_load m c t 0 _ rfl _ _
  · exact sinks_load m c t 1 _ rfl _ _
  · exact sinks_load m c t 2 _ rfl _ _
  · exact sinks_load m c t 3 _ rfl _ _
  · exact sinks_load m c t 4 _ rfl _ _
  · exact sinks_load m c t 5 _ rfl _ _
  · exact sinks_load m c t 6 _ rfl _ _
  · exact sinks_load m c t 7 _ rfl _ _

end Cert.KernelIdeal.Layer

end
-- ==== Proof.Merge.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The gated merge of the three branches

`gated` is one branch's projection under its gate; the sum of the three goes through the output projection onto the
residual, and the result's normalised row is the tile's second output.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- One branch: the logistic of its gate logits times its projection. -/
def gated (A : FVec Ideal S256x512 .bf16) (P : FVec Ideal S512x1024 .bf16) (L : FVec Ideal S256x1024 .f32)
    (B : FVec Ideal S1x1024 .f32) : FVec Ideal S256x1024 .f32 :=
  mulf (logistic (addf L (broadcastTo S256x1024 B broadcasts_S1x1024_S256x1024)))
    (matmul dot_S256x512_S512x1024_S256x1024_1_0_0_1_n_n none A P (constant S256x1024 .f32 0x00000000#32))

variable (x0 : FVec Ideal S2x8192x1024 .f32) (x1 x2 : FVec Ideal S2x256x512 .bf16) (x3 : FVec Ideal S1x1024 .f32)
  (x4 : FVec Ideal S1x1024x5376 .f32) (x5 : FVec Ideal S1x3x1024 .f32) (x6 : FVec Ideal S1x8 .f32) (x7 : FVec Ideal S1x512 .f32)
  (x8 : FVec Ideal S1x4x128x128 .f32) (x9 : FVec Ideal S1x4x128 .f32) (x10 : FVec Ideal S1x3x512x1024 .f32)
  (x11 : FVec Ideal S1x1024x1024 .f32) (x12 : FVec Ideal S1x1024 .f32)
variable (b : Fin 2) (s : Fin 8192) (r : Fin 256)

/-- The stacked branches, one by one. -/
theorem stack_swa (d : Fin 512) : val_main_v178 (F := Ideal) x0 x1 x2 x3 x4 x6 x7 x8 x9 (ix4 b s 0 d)
    = val_main_v139 (F := Ideal) x0 x3 x4 x6 (ix3 b s d) := by
  pointwise [val_main_v178, val_main_v175]

/-- The second branch. -/
theorem stack_chunk (d : Fin 512) : val_main_v178 (F := Ideal) x0 x1 x2 x3 x4 x6 x7 x8 x9 (ix4 b s 1 d)
    = val_main_v152 (F := Ideal) x0 x3 x4 x7 x8 x9 (ix3 b s d) := by
  pointwise [val_main_v178, val_main_v176]

/-- The third branch. -/
theorem stack_mem (d : Fin 512) : val_main_v178 (F := Ideal) x0 x1 x2 x3 x4 x6 x7 x8 x9 (ix4 b s 2 d)
    = val_main_v174 (F := Ideal) x0 x1 x2 x3 x4 (ix3 b s d) := by
  pointwise [val_main_v178, val_main_v177]

/-- The reference's gate is the logistic of its logits. -/
theorem gate_logistic (i : Cert.ReferenceIdeal.S2x8192x3x1024.Idx) : val_main_v192 (F := Ideal) x0 x3 x4 x5 i
    = Ideal.logistic (val_main_v182 (F := Ideal) x0 x3 x4 i + val_main_v185 (F := Ideal) x5 i) := by
  have h1 : FloatOps.ofBits (F := Ideal) .f32 0x3F800000#32 = (1 : EReal) := IdealRules.sign_bit.ideal_onePat .f32
  rw [val_main_v192_apply, val_main_v191_apply, val_main_v190_apply, val_main_v189_apply, val_main_v188_apply,
    val_main_v187_apply, val_main_v186_apply, val_main_cst_30_apply, val_main_cst_31_apply, h1]
  rfl

/-- One branch at an index. -/
theorem gated_at (A : FVec Ideal S256x512 .bf16) (P : FVec Ideal S512x1024 .bf16) (L : FVec Ideal S256x1024 .f32)
    (B : FVec Ideal S1x1024 .f32) (k : Fin 3)
    (hA : ∀ d : Fin 512, A (ix2 r d) = val_main_v178 (F := Ideal) x0 x1 x2 x3 x4 x6 x7 x8 x9 (ix4 b s k d))
    (hP : ∀ (d : Fin 512) (j : Fin 1024), P (ix2 d j) = x10 (ix4 0 k d j))
    (hG : ∀ (j : Fin 1024) (J : Fin 3072), J.val = k.val * 1024 + j.val →
      L (ix2 r j) = val_main_v23 (F := Ideal) x0 x3 x4 (ix3 b s J))
    (hB : ∀ j : Fin 1024, B (ix2 0 j) = x5 (ix3 0 k j)) (j : Fin 1024) :
    gated A P L B (ix2 r j) = val_main_v193 (F := Ideal) x0 x1 x2 x3 x4 x5 x6 x7 x8 x9 x10 (ix4 b s k j) := by
  have e182 : val_main_v182 (F := Ideal) x0 x3 x4 (ix4 b s k j)
      = val_main_v23 (F := Ideal) x0 x3 x4 (ix3 b s ⟨k.val * 1024 + j.val, by omega⟩) := by
    unfold val_main_v182
    generalize val_main_v23 (F := Ideal) x0 x3 x4 = y
    refine shapeCast_apply y _ _ _ ?_
    rewrite [Shape.rowMajor_val_three, Shape.rowMajor_val_four]
    show (b.val * 8192 + s.val) * 3072 + (k.val * 1024 + j.val) = ((b.val * 8192 + s.val) * 3 + k.val) * 1024 + j.val
    omega
  have e185 : val_main_v185 (F := Ideal) x5 (ix4 b s k j) = x5 (ix3 0 k j) := by
    pointwise [val_main_v185, val_main_v184, val_main_v183]
  have e179 : ∀ d : Fin 512, val_main_v179 (F := Ideal) x10 (ix3 k d j) = x10 (ix4 0 k d j) := fun d => by
    pointwise [val_main_v179]
  have e181 : val_main_v181 (F := Ideal) x0 x1 x2 x3 x4 x6 x7 x8 x9 x10 (ix4 b s k j)
      = ∑ d : Fin 512, x10 (ix4 0 k d j) * val_main_v178 (F := Ideal) x0 x1 x2 x3 x4 x6 x7 x8 x9 (ix4 b s k d) := by
    rw [val_main_v181_apply, val_main_v180_apply]
    refine Finset.sum_congr rfl fun d _ => congrArg₂ (· * ·) ((congrArg (val_main_v179 (F := Ideal) x10) ?_).trans (e179 d))
      (congrArg (val_main_v178 (F := Ideal) x0 x1 x2 x3 x4 x6 x7 x8 x9) ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl | ⟨3, _⟩ => rfl)
  rw [val_main_v193_apply, gate_logistic, e182, e185, e181, ← hG j _ rfl, ← hB j]
  pointwise [gated]
  simp only [hA, hP]
  exact congrArg (_ * ·) (Finset.sum_congr rfl fun d _ => mul_comm _ _)

end Cert.KernelIdeal.Layer

end
-- ==== Proof.Out.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

/-!
# The layer's two row outputs

`out` is the residual plus the output projection of the merged branches; its normalised row is the second output. Both at
a row of the tile are the reference's arrays at the row's token.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (x0 : FVec Ideal S2x8192x1024 .f32) (x1 x2 : FVec Ideal S2x256x512 .bf16) (x3 : FVec Ideal S1x1024 .f32)
  (x4 : FVec Ideal S1x1024x5376 .f32) (x5 : FVec Ideal S1x3x1024 .f32) (x6 : FVec Ideal S1x8 .f32) (x7 : FVec Ideal S1x512 .f32)
  (x8 : FVec Ideal S1x4x128x128 .f32) (x9 : FVec Ideal S1x4x128 .f32) (x10 : FVec Ideal S1x3x512x1024 .f32)
  (x11 : FVec Ideal S1x1024x1024 .f32) (x12 : FVec Ideal S1x1024 .f32)
variable (b : Fin 2) (s : Fin 8192) (r : Fin 256)

/-- The three gated branches added up are the reference's sum over the stacked branches. -/
theorem merged_at (g0 g1 g2 : FVec Ideal S256x1024 .f32) (j : Fin 1024)
    (h0 : g0 (ix2 r j) = val_main_v193 (F := Ideal) x0 x1 x2 x3 x4 x5 x6 x7 x8 x9 x10 (ix4 b s 0 j))
    (h1 : g1 (ix2 r j) = val_main_v193 (F := Ideal) x0 x1 x2 x3 x4 x5 x6 x7 x8 x9 x10 (ix4 b s 1 j))
    (h2 : g2 (ix2 r j) = val_main_v193 (F := Ideal) x0 x1 x2 x3 x4 x5 x6 x7 x8 x9 x10 (ix4 b s 2 j)) :
    addf (addf g0 g1) g2 (ix2 r j)
      = val_main_v194 (F := Ideal) x0 x1 x2 x3 x4 x5 x6 x7 x8 x9 x10 (ix3 b s j) := by
  have e : ∀ k : Fin 3, idx_main_v194 (ix3 b s j) k = ix4 b s k j := fun k =>
    funext fun a => Fin.ext (by match a with | ⟨0, _⟩ => rfl | ⟨1, _⟩ => rfl | ⟨2, _⟩ => rfl | ⟨3, _⟩ => rfl)
  have z : ∀ i, val_main_cst_32 (F := Ideal) i = (0 : EReal) := fun i => by
    rw [val_main_cst_32_apply]
    pointwise
  rw [val_main_v194_apply, z, zero_add, Fin.sum_univ_three, e, e, e, ← h0, ← h1, ← h2]
  rfl

/-- The residual plus the output projection. -/
def out (X G : FVec Ideal S256x1024 .f32) (O : FVec Ideal S1024x1024 .bf16) : FVec Ideal S256x1024 .f32 :=
  addf X (matmul dot_S256x1024_S1024x1024_S256x1024_1_0_0_1_n_n none (truncf .bf16 G bitsLt_bf16_f32) O
    (constant S256x1024 .f32 0x00000000#32))

/-- The residual plus the output projection, at an index. -/
theorem resid_at (X G : FVec Ideal S256x1024 .f32) (O : FVec Ideal S1024x1024 .bf16)
    (hX : ∀ j, X (ix2 r j) = x0 (ix3 b s j))
    (hG : ∀ j, G (ix2 r j) = val_main_v194 (F := Ideal) x0 x1 x2 x3 x4 x5 x6 x7 x8 x9 x10 (ix3 b s j))
    (hO : ∀ i j, O (ix2 i j) = x11 (ix3 0 i j)) (j : Fin 1024) :
    out X G O (ix2 r j) = val_main_v197 (F := Ideal) x0 x1 x2 x3 x4 x5 x6 x7 x8 x9 x10 x11 (ix3 b s j) := by
  have e195 : ∀ i : Fin 1024, val_main_v195 (F := Ideal) x11 (ix2 i j) = x11 (ix3 0 i j) := fun i => by
    pointwise [val_main_v195]
  have e196 : val_main_v196 (F := Ideal) x0 x1 x2 x3 x4 x5 x6 x7 x8 x9 x10 x11 (ix3 b s j)
      = ∑ i : Fin 1024, val_main_v194 (F := Ideal) x0 x1 x2 x3 x4 x5 x6 x7 x8 x9 x10 (ix3 b s i) * x11 (ix3 0 i j) := by
    rw [val_main_v196_apply]
    refine Finset.sum_congr rfl fun d _ => congrArg₂ (· * ·)
      (congrArg (val_main_v194 (F := Ideal) x0 x1 x2 x3 x4 x5 x6 x7 x8 x9 x10) ?_)
      ((congrArg (val_main_v195 (F := Ideal) x11) ?_).trans (e195 d))
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  rw [val_main_v197_apply, e196]
  pointwise [out]
  simp only [hX, hG, hO]

/-- A row's normalisation by its mean square, times a gain. -/
def norm (Y : FVec Ideal S256x1024 .f32) (G : FVec Ideal S1x1024 .f32) : FVec Ideal S256x1024 .f32 :=
  mulf (mulf Y (broadcastTo S256x1024 (rsqrt (addf (divf (shapeCast S256x1
      (multiReduction .add [1] S256 (mulf Y Y) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)) (broadcastTo S256x1024 G broadcasts_S1x1024_S256x1024)

/-- The normalised output row, at an index. -/
theorem norm_at (Y : FVec Ideal S256x1024 .f32) (G : FVec Ideal S1x1024 .f32)
    (hY : ∀ j, Y (ix2 r j) = val_main_v197 (F := Ideal) x0 x1 x2 x3 x4 x5 x6 x7 x8 x9 x10 x11 (ix3 b s j))
    (hG : ∀ j, G (ix2 0 j) = x12 (ix2 0 j)) (j : Fin 1024) :
    norm Y G (ix2 r j) = val_main_v211 (F := Ideal) x0 x1 x2 x3 x4 x5 x6 x7 x8 x9 x10 x11 x12 (ix3 b s j) := by
  unfold val_main_v211 val_main_v208 val_main_v207 val_main_v206 val_main_v205 val_main_v203 val_main_v201 val_main_v200
    val_main_v199
  generalize val_main_v197 (F := Ideal) x0 x1 x2 x3 x4 x5 x6 x7 x8 x9 x10 x11 = Z at hY ⊢
  pointwise [norm, val_main_v210, val_main_v209, val_main_v204, val_main_v202, val_main_v198, val_main_cst_33,
    val_main_cst_34, val_main_cst_35]
  simp only [hY, hG]

end Cert.KernelIdeal.Layer

end
-- ==== Proof.Rows.lean ====
module

public import proofs.«01_k».proof.Proof.Gen.KernelIdeal.Value
public import proofs.«01_k».proof.Proof.Gen.ReferenceIdeal.Read
public import proofs.«01_k».proof.Proof.Merge
public import proofs.«01_k».proof.Proof.Out
public import Idealize.ShloMosaic.Lib.Pipeline.ValueKit
public import Idealize.ShloMosaic.Lib.Pointwise

/-!
# A row of the layer's outputs from the three branch buffers

`row_at` and `norm_row_at` read the two stores of a grid point at a row, from what the three branch buffers, the gate
logits and the weights are at that row.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The merged branches of a tile. -/
def merged (XN : FVec Ideal S256x1024 .bf16) (A0 A1 A2 : FVec Ideal S256x512 .bf16) (P0 P1 P2 : Vec Ideal S1x512x1024 .bf16)
    (W0 W1 W2 : Vec Ideal S1024x1024 .bf16) (B0 B1 B2 : Vec Ideal S1x1024 .f32) : FVec Ideal S256x1024 .f32 :=
  addf (addf (gated A0 (shapeCast S512x1024 P0 shapeCasts_S1x512x1024_S512x1024) (k0_pay93 XN W0) B0)
    (gated A1 (shapeCast S512x1024 P1 shapeCasts_S1x512x1024_S512x1024) (k0_pay93 XN W1) B1))
    (gated A2 (shapeCast S512x1024 P2 shapeCasts_S1x512x1024_S512x1024) (k0_pay93 XN W2) B2)

section

variable (X : Vec Ideal S256x1024 .f32) (XN : FVec Ideal S256x1024 .bf16) (A0 A1 A2 : FVec Ideal S256x512 .bf16)
  (P0 P1 P2 : Vec Ideal S1x512x1024 .bf16) (W0 W1 W2 : Vec Ideal S1024x1024 .bf16) (B0 B1 B2 : Vec Ideal S1x1024 .f32)
  (O : Vec Ideal S1024x1024 .bf16) (G : Vec Ideal S1x1024 .f32)

/-- The first store is the residual plus the projection of the merged branches. -/
theorem store_out : k0_pay94 (k0_pay4 X) XN A2 (k0_pay91 XN A0 P0 W0 B0) (k0_pay92 A1 P1) (k0_pay93 XN W1) B1 P2 W2 B2 O
    = out X (merged XN A0 A1 A2 P0 P1 P2 W0 W1 W2 B0 B1 B2) O := by
  simp only [out, merged, gated, k0_pay94, k0_pay93, k0_pay92, k0_pay91, k0_pay4, shapeCast_self]

/-- The second store is that row normalised. -/
theorem store_norm : k0_pay1 (k0_pay95 (k0_pay4 X) XN A2 (k0_pay91 XN A0 P0 W0 B0) (k0_pay92 A1 P1) (k0_pay93 XN W1) B1 P2 W2 B2 O G)
    = truncf .bf16 (norm (out X (merged XN A0 A1 A2 P0 P1 P2 W0 W1 W2 B0 B1 B2) O) G) bitsLt_bf16_f32 := by
  unfold k0_pay1 k0_pay95
  rw [store_out]
  generalize out X (merged XN A0 A1 A2 P0 P1 P2 W0 W1 W2 B0 B1 B2) O = Y
  rw [shapeCast_self]
  rfl

variable (x0 : FVec Ideal S2x8192x1024 .f32) (x1 x2 : FVec Ideal S2x256x512 .bf16) (x3 : FVec Ideal S1x1024 .f32)
  (x4 : FVec Ideal S1x1024x5376 .f32) (x5 : FVec Ideal S1x3x1024 .f32) (x6 : FVec Ideal S1x8 .f32) (x7 : FVec Ideal S1x512 .f32)
  (x8 : FVec Ideal S1x4x128x128 .f32) (x9 : FVec Ideal S1x4x128 .f32) (x10 : FVec Ideal S1x3x512x1024 .f32)
  (x11 : FVec Ideal S1x1024x1024 .f32) (x12 : FVec Ideal S1x1024 .f32)
variable (b : Fin 2) (s : Fin 8192) (r : Fin 256)
  (hX : ∀ j, X (ix2 r j) = x0 (ix3 b s j))
  (hA0 : ∀ d : Fin 512, A0 (ix2 r d) = val_main_v139 (F := Ideal) x0 x3 x4 x6 (ix3 b s d))
  (hA1 : ∀ d : Fin 512, A1 (ix2 r d) = val_main_v152 (F := Ideal) x0 x3 x4 x7 x8 x9 (ix3 b s d))
  (hA2 : ∀ d : Fin 512, A2 (ix2 r d) = val_main_v174 (F := Ideal) x0 x1 x2 x3 x4 (ix3 b s d))
  (hP0 : ∀ (d : Fin 512) (j : Fin 1024), P0 (ix3 0 d j) = x10 (ix4 0 0 d j))
  (hP1 : ∀ (d : Fin 512) (j : Fin 1024), P1 (ix3 0 d j) = x10 (ix4 0 1 d j))
  (hP2 : ∀ (d : Fin 512) (j : Fin 1024), P2 (ix3 0 d j) = x10 (ix4 0 2 d j))
  (hW0 : ∀ (j : Fin 1024) (J : Fin 3072), J.val = (0 : Fin 3).val * 1024 + j.val →
    k0_pay93 XN W0 (ix2 r j) = val_main_v23 (F := Ideal) x0 x3 x4 (ix3 b s J))
  (hW1 : ∀ (j : Fin 1024) (J : Fin 3072), J.val = (1 : Fin 3).val * 1024 + j.val →
    k0_pay93 XN W1 (ix2 r j) = val_main_v23 (F := Ideal) x0 x3 x4 (ix3 b s J))
  (hW2 : ∀ (j : Fin 1024) (J : Fin 3072), J.val = (2 : Fin 3).val * 1024 + j.val →
    k0_pay93 XN W2 (ix2 r j) = val_main_v23 (F := Ideal) x0 x3 x4 (ix3 b s J))
  (hB0 : ∀ j : Fin 1024, B0 (ix2 0 j) = x5 (ix3 0 0 j)) (hB1 : ∀ j : Fin 1024, B1 (ix2 0 j) = x5 (ix3 0 1 j))
  (hB2 : ∀ j : Fin 1024, B2 (ix2 0 j) = x5 (ix3 0 2 j)) (hO : ∀ i j, O (ix2 i j) = x11 (ix3 0 i j))

include hX hA0 hA1 hA2 hP0 hP1 hP2 hW0 hW1 hW2 hB0 hB1 hB2 hO

/-- The first store at a row. -/
theorem row_at (j : Fin 1024) :
    k0_pay94 (k0_pay4 X) XN A2 (k0_pay91 XN A0 P0 W0 B0) (k0_pay92 A1 P1) (k0_pay93 XN W1) B1 P2 W2 B2 O (ix2 r j)
      = val_main_v197 (F := Ideal) x0 x1 x2 x3 x4 x5 x6 x7 x8 x9 x10 x11 (ix3 b s j) := by
  rw [store_out]
  have cast : ∀ (P : Vec Ideal S1x512x1024 .bf16) (d : Fin 512) (j : Fin 1024),
      shapeCast S512x1024 P shapeCasts_S1x512x1024_S512x1024 (ix2 d j) = P (ix3 0 d j) := fun P d j => by pointwise
  refine resid_at x0 x1 x2 x3 x4 x5 x6 x7 x8 x9 x10 x11 b s r X _ O hX (fun j => ?_) hO j
  refine merged_at x0 x1 x2 x3 x4 x5 x6 x7 x8 x9 x10 b s r _ _ _ j ?_ ?_ ?_
  · refine gated_at x0 x1 x2 x3 x4 x5 x6 x7 x8 x9 x10 b s r _ _ _ _ 0 (fun d => ?_) (fun d j => (cast _ _ _).trans (hP0 d j)) hW0 hB0 j
    · exact (hA0 d).trans (stack_swa x0 x1 x2 x3 x4 x6 x7 x8 x9 b s d).symm
  · refine gated_at x0 x1 x2 x3 x4 x5 x6 x7 x8 x9 x10 b s r _ _ _ _ 1 (fun d => ?_) (fun d j => (cast _ _ _).trans (hP1 d j)) hW1 hB1 j
    · exact (hA1 d).trans (stack_chunk x0 x1 x2 x3 x4 x6 x7 x8 x9 b s d).symm
  · refine gated_at x0 x1 x2 x3 x4 x5 x6 x7 x8 x9 x10 b s r _ _ _ _ 2 (fun d => ?_) (fun d j => (cast _ _ _).trans (hP2 d j)) hW2 hB2 j
    · exact (hA2 d).trans (stack_mem x0 x1 x2 x3 x4 x6 x7 x8 x9 b s d).symm

/-- The second store at a row. -/
theorem norm_row_at (hG : ∀ j, G (ix2 0 j) = x12 (ix2 0 j)) (j : Fin 1024) :
    k0_pay1 (k0_pay95 (k0_pay4 X) XN A2 (k0_pay91 XN A0 P0 W0 B0) (k0_pay92 A1 P1) (k0_pay93 XN W1) B1 P2 W2 B2 O G) (ix2 r j)
      = val_main_v213 (F := Ideal) x0 x1 x2 x3 x4 x5 x6 x7 x8 x9 x10 x11 x12 (ix3 b s j) := by
  have row := row_at X XN A0 A1 A2 P0 P1 P2 W0 W1 W2 B0 B1 B2 O x0 x1 x2 x3 x4 x5 x6 x7 x8 x9 x10 x11 b s r hX hA0 hA1 hA2
    hP0 hP1 hP2 hW0 hW1 hW2 hB0 hB1 hB2 hO
  rw [store_out] at row
  rw [store_norm, val_main_v213_apply]
  rw [← norm_at x0 x1 x2 x3 x4 x5 x6 x7 x8 x9 x10 x11 x12 b s r _ G row hG j]
  rfl

end

end Cert.KernelIdeal.Layer

end
-- ==== Proof.Tile.lean ====
module

public import proofs.«01_k».proof.Proof.Gen.KernelIdeal.Value
public import proofs.«01_k».proof.Proof.Gen.ReferenceIdeal.Read
public import proofs.«01_k».proof.Proof.Carry
public import proofs.«01_k».proof.Proof.Buffers
public import proofs.«01_k».proof.Proof.Rows
public import proofs.«01_k».proof.Proof.ProjC
public import Idealize.ShloMosaic.Lib.Pipeline.ValueKit
public import Idealize.ShloMosaic.Lib.Pointwise

/-!
# A grid point's two row outputs

`tile_h` and `tile_n` read a grid point's blocks of the layer's output and of its normalised output, at a row, as the
reference's arrays at the row's token: the first tile of a batch entry from zeros before the sequence, every other one
from what the point before carried over.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

/-- The body's test for the first tile of a batch entry. -/
theorem flag_at : ∀ t : Fin cfg0.N, Scalar.cmpi CmpIPredicate.eq
    (Scalar.select
      (Scalar.andi (Scalar.xori (Scalar.cmpi CmpIPredicate.slt (Scalar.remsi (BitVec.ofNat 32 (grid0.coords t 0).val) 32#32) 0#32) 0#1)
        (Scalar.cmpi CmpIPredicate.ne (Scalar.remsi (BitVec.ofNat 32 (grid0.coords t 0).val) 32#32) 0#32))
      (Scalar.addi (Scalar.remsi (BitVec.ofNat 32 (grid0.coords t 0).val) 32#32) 32#32)
      (Scalar.remsi (BitVec.ofNat 32 (grid0.coords t 0).val) 32#32)) 0#32 = if t.val % 32 = 0 then 1#1 else 0#1 :=
  (by decide +kernel : ∀ t : Fin grid0.N, _)

variable (m : (ℓ : Loc nD τ sig) → Buf (Elt Ideal) ℓ) (c : Dev nD) (t : Fin cfg0.N) (b : Fin 2) (s : Fin 8192) (r : Fin 256)
  (hb : b.val = t.val / 32) (hs : s.val = t.val % 32 * 256 + r.val)

include hb in
/-- The keys carried into a later tile. -/
theorem carried_k (h : ¬ t.val % 32 = 0) (ht) (hw : (Memref.whole cc0_scratch0 : Memref sig .tc .vmem S128x128 .bf16).IsWhole)
    (a : Fin 128) (s : Fin 8192) (hs : s.val + 128 = t.val % 32 * 256 + a.val) (j : Fin 128) :
    (View.read (Elt Ideal) (View.whole cc0_scratch0) (hw.unread (outsAt0 m c (t.val - 1) ht).2.2.2.2.1) : FVec Ideal S128x128 .bf16) (ix2 a j)
      = val_main_v17 (F := Ideal) (m ((c.tc : Thread nD τ).loc main_arg0)) (m ((c.tc : Thread nD τ).loc main_arg3))
        (m ((c.tc : Thread nD τ).loc main_arg4)) (ix3 b s j) :=
  (congrFun (hw.read_unread _) (ix2 a j)).trans
    (carry_k m c ⟨t.val - 1, ht⟩ b s a (by show _ = (t.val - 1) / 32; omega) (by show _ = (t.val - 1) % 32 * 256 + _; omega) j)

include hb in
/-- The values carried into a later tile. -/
theorem carried_v (h : ¬ t.val % 32 = 0) (ht) (hw : (Memref.whole cc0_scratch1 : Memref sig .tc .vmem S128x128 .bf16).IsWhole)
    (a : Fin 128) (s : Fin 8192) (hs : s.val + 128 = t.val % 32 * 256 + a.val) (j : Fin 128) :
    (View.read (Elt Ideal) (View.whole cc0_scratch1) (hw.unread (outsAt0 m c (t.val - 1) ht).2.2.2.2.2) : FVec Ideal S128x128 .bf16) (ix2 a j)
      = val_main_v18 (F := Ideal) (m ((c.tc : Thread nD τ).loc main_arg0)) (m ((c.tc : Thread nD τ).loc main_arg3))
        (m ((c.tc : Thread nD τ).loc main_arg4)) (ix3 b s j) :=
  (congrFun (hw.read_unread _) (ix2 a j)).trans
    (carry_v m c ⟨t.val - 1, ht⟩ b s a (by show _ = (t.val - 1) / 32; omega) (by show _ = (t.val - 1) % 32 * 256 + _; omega) j)

include hb hs

/-- The gate logits at a row, the columns counted from the branch's first. -/
theorem logits_at (j : Fin 1024) (J : Fin 3072) :
    (J.val = (0 : Fin 3).val * 1024 + j.val → k0_pay93 (F := Ideal) (k0_pay5 (iblk m c 1 t) (iblk m c 4 t)) (View.ld (iblk m c 5 t) (Rect.unit ![0, 2304] ![1024, 1024] inb_S1024x5376_S1024x1024_0_2304)) (ix2 r j)
      = val_main_v23 (F := Ideal) (m ((c.tc : Thread nD τ).loc main_arg0)) (m ((c.tc : Thread nD τ).loc main_arg3)) (m ((c.tc : Thread nD τ).loc main_arg4)) (ix3 b s J))
    ∧ (J.val = (1 : Fin 3).val * 1024 + j.val → k0_pay93 (F := Ideal) (k0_pay5 (iblk m c 1 t) (iblk m c 4 t)) (View.ld (iblk m c 5 t) (Rect.unit ![0, 3328] ![1024, 1024] inb_S1024x5376_S1024x1024_0_3328)) (ix2 r j)
      = val_main_v23 (F := Ideal) (m ((c.tc : Thread nD τ).loc main_arg0)) (m ((c.tc : Thread nD τ).loc main_arg3)) (m ((c.tc : Thread nD τ).loc main_arg4)) (ix3 b s J))
    ∧ (J.val = (2 : Fin 3).val * 1024 + j.val → k0_pay93 (F := Ideal) (k0_pay5 (iblk m c 1 t) (iblk m c 4 t)) (View.ld (iblk m c 5 t) (Rect.unit ![0, 4352] ![1024, 1024] inb_S1024x5376_S1024x1024_0_4352)) (ix2 r j)
      = val_main_v23 (F := Ideal) (m ((c.tc : Thread nD τ).loc main_arg0)) (m ((c.tc : Thread nD τ).loc main_arg3)) (m ((c.tc : Thread nD τ).loc main_arg4)) (ix3 b s J)) := by
  refine ⟨fun h => ?_, fun h => ?_, fun h => ?_⟩
  · exact (gl0_at m c t b s r hb hs j).trans (congrArg (fun J => val_main_v23 (F := Ideal) _ _ _ (ix3 b s J))
      (Fin.ext (h.trans (by show 0 * 1024 + j.val = j.val; omega)).symm))
  · exact (gl1_at m c t b s r hb hs j).trans (congrArg (fun J => val_main_v23 (F := Ideal) _ _ _ (ix3 b s J)) (Fin.ext h.symm))
  · exact (gl2_at m c t b s r hb hs j).trans (congrArg (fun J => val_main_v23 (F := Ideal) _ _ _ (ix3 b s J)) (Fin.ext h.symm))

/-- The layer's output at a row. -/
theorem tile_h (j : Fin 1024) : ((outsAt0 m c t.val t.isLt).1 : FVec Ideal S256x1024 .f32) (ix2 r j)
    = val_main_v197 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix3 b s j) := by
  have chunk := chunk_load m c t b ⟨t.val % 32, by omega⟩ hb rfl r s hs
  have mem := mem_load m c t b ⟨t.val % 32, by omega⟩ hb rfl r s hs
  have logits := logits_at m c t b s r hb hs
  by_cases h : t.val % 32 = 0
  · rw [outsAt0_A m c t h]
    frame_out
    exact row_at _ _ _ _ _ _ _ _ _ _ _ _ _ _ _ _ _ _ _ _ _ _ _ _ _ _ _ b s r (token_block m c t b s r hb hs)
      (swa_load m c t b ⟨t.val % 32, by omega⟩ hb rfl _ _ _ (flag_at t) (fun _ a j => by pointwise [k0_pay2])
        (fun a s hs => absurd hs (by show ¬ _ = t.val % 32 * 256 + _; omega)) (fun _ a j => by pointwise [k0_pay3])
        (fun a s hs => absurd hs (by show ¬ _ = t.val % 32 * 256 + _; omega)) _ _ _ _ _ _ _ _ r s hs) chunk mem
      (branch_load_p m c t 0 _ rfl _) (branch_load_p m c t 1 _ rfl _) (branch_load_p m c t 2 _ rfl _)
      (fun j J => (logits j J).1) (fun j J => (logits j J).2.1) (fun j J => (logits j J).2.2)
      (gate_load_b m c t 0 _ rfl _) (gate_load_b m c t 1 _ rfl _) (gate_load_b m c t 2 _ rfl _) (out_block m c t) j
  · rw [outsAt0_B m c t h]
    frame_out
    exact row_at _ _ _ _ _ _ _ _ _ _ _ _ _ _ _ _ _ _ _ _ _ _ _ _ _ _ _ b s r (token_block m c t b s r hb hs)
      (swa_load m c t b ⟨t.val % 32, by omega⟩ hb rfl _ _ _ (flag_at t) (fun h0 => absurd h0 h)
        (carried_k m c t b hb h _ _) (fun h0 => absurd h0 h)
        (carried_v m c t b hb h _ _) _ _ _ _ _ _ _ _ r s hs) chunk mem
      (branch_load_p m c t 0 _ rfl _) (branch_load_p m c t 1 _ rfl _) (branch_load_p m c t 2 _ rfl _)
      (fun j J => (logits j J).1) (fun j J => (logits j J).2.1) (fun j J => (logits j J).2.2)
      (gate_load_b m c t 0 _ rfl _) (gate_load_b m c t 1 _ rfl _) (gate_load_b m c t 2 _ rfl _) (out_block m c t) j

/-- The layer's normalised output at a row. -/
theorem tile_n (j : Fin 1024) : ((outsAt0 m c t.val t.isLt).2.1 : FVec Ideal S256x1024 .bf16) (ix2 r j)
    = val_main_v213 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix3 b s j) := by
  have chunk := chunk_load m c t b ⟨t.val % 32, by omega⟩ hb rfl r s hs
  have mem := mem_load m c t b ⟨t.val % 32, by omega⟩ hb rfl r s hs
  have logits := logits_at m c t b s r hb hs
  by_cases h : t.val % 32 = 0
  · rw [outsAt0_A m c t h]
    frame_out
    exact norm_row_at _ _ _ _ _ _ _ _ _ _ _ _ _ _ _ _ _ _ _ _ _ _ _ _ _ _ _ _ _ b s r (token_block m c t b s r hb hs)
      (swa_load m c t b ⟨t.val % 32, by omega⟩ hb rfl _ _ _ (flag_at t) (fun _ a j => by pointwise [k0_pay2])
        (fun a s hs => absurd hs (by show ¬ _ = t.val % 32 * 256 + _; omega)) (fun _ a j => by pointwise [k0_pay3])
        (fun a s hs => absurd hs (by show ¬ _ = t.val % 32 * 256 + _; omega)) _ _ _ _ _ _ _ _ r s hs) chunk mem
      (branch_load_p m c t 0 _ rfl _) (branch_load_p m c t 1 _ rfl _) (branch_load_p m c t 2 _ rfl _)
      (fun j J => (logits j J).1) (fun j J => (logits j J).2.1) (fun j J => (logits j J).2.2)
      (gate_load_b m c t 0 _ rfl _) (gate_load_b m c t 1 _ rfl _) (gate_load_b m c t 2 _ rfl _) (out_block m c t) (gain_block m c t) j
  · rw [outsAt0_B m c t h]
    frame_out
    exact norm_row_at _ _ _ _ _ _ _ _ _ _ _ _ _ _ _ _ _ _ _ _ _ _ _ _ _ _ _ _ _ b s r (token_block m c t b s r hb hs)
      (swa_load m c t b ⟨t.val % 32, by omega⟩ hb rfl _ _ _ (flag_at t) (fun h0 => absurd h0 h)
        (carried_k m c t b hb h _ _) (fun h0 => absurd h0 h)
        (carried_v m c t b hb h _ _) _ _ _ _ _ _ _ _ r s hs) chunk mem
      (branch_load_p m c t 0 _ rfl _) (branch_load_p m c t 1 _ rfl _) (branch_load_p m c t 2 _ rfl _)
      (fun j J => (logits j J).1) (fun j J => (logits j J).2.1) (fun j J => (logits j J).2.2)
      (gate_load_b m c t 0 _ rfl _) (gate_load_b m c t 1 _ rfl _) (gate_load_b m c t 2 _ rfl _) (out_block m c t) (gain_block m c t) j

end Cert.KernelIdeal.Layer

end
-- ==== Proof.Finals.lean ====
module

public import proofs.«01_k».proof.Proof.Gen.KernelIdeal.Value
public import proofs.«01_k».proof.Proof.Gen.ReferenceIdeal.Read
public import proofs.«01_k».proof.Proof.Tile
public import Idealize.ShloMosaic.Lib.Pipeline.ValueKit
public import Idealize.ShloMosaic.Lib.Pointwise

/-!
# The call's four arrays

Every array the layer's call writes, after the run, is the reference's.
-/

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen
open Cert.ReferenceIdeal.Read

variable (m : (ℓ : Loc nD τ sig) → Buf (Elt Ideal) ℓ) (c : Dev nD)

/-- A token of the layer's output without the batch axis. -/
theorem flat_row (b : Fin 2) (s : Fin 8192) (R : Fin 16384) (hR : R.val = b.val * 8192 + s.val) (j : Fin 1024) {α : Type}
    (x : S2x8192x1024.Idx → α) (h) : shapeCast S16384x1024 x h (ix2 R j) = x (ix3 b s j) := by
  refine shapeCast_apply _ _ _ _ ?_
  rewrite [Shape.rowMajor_val_three, Shape.rowMajor_val_two]
  show (b.val * 8192 + s.val) * 1024 + j.val = R.val * 1024 + j.val
  omega

/-- The last 128 tokens of each batch entry. -/
theorem last_tokens (b : Fin 2) (s : Fin 8192) (a : Fin 128) (hs : s.val = 8064 + a.val) (j : Fin 128)
    (x : FVec Ideal Cert.ReferenceIdeal.S2x8192x128 .f32) (h h' h'') :
    shapeCast S2x128x128 (extractStridedSlice Cert.ReferenceIdeal.S2x1x128x128 ![0, 63, 0, 0] (shapeCast Cert.ReferenceIdeal.S2x64x128x128 x h) h') h'' (ix3 b a j)
      = x (ix3 b s j) := by
  refine (shapeCast_apply _ _ _ (ix4 b 0 a j) ?_).trans
    ((extractStridedSlice_apply _ _ _ _ (ix4 b 63 a j) fun q => ?_).trans (shapeCast_apply _ _ _ (ix3 b s j) ?_))
  · rewrite [Shape.rowMajor_val_four, Shape.rowMajor_val_three]
    show ((b.val * 1 + 0) * 128 + a.val) * 128 + j.val = (b.val * 128 + a.val) * 128 + j.val
    omega
  · match q with
    | ⟨0, _⟩ => exact (Nat.zero_add _).symm
    | ⟨1, _⟩ => rfl
    | ⟨2, _⟩ => exact (Nat.zero_add _).symm
    | ⟨3, _⟩ => exact (Nat.zero_add _).symm
  · rewrite [Shape.rowMajor_val_four, Shape.rowMajor_val_three]
    show (b.val * 8192 + s.val) * 128 + j.val = ((b.val * 64 + 63) * 128 + a.val) * 128 + j.val
    omega

/-- The layer's output. -/
theorem final13 : (dats m 0 c).arrAt 13 (cfgs 0).N = val_main_v212 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 13 _ (by decide +kernel) fun t _ y => ?_
  blk_simp
  rw [after0_13]
  have ht : t.val < 64 := t.isLt
  obtain ⟨r, j, rfl⟩ : ∃ (r : Fin 256) (j : Fin 1024), y = ix2 r j := ⟨y 0, y 1, (ix2_eta y).symm⟩
  refine (tile_h m c t ⟨t.val / 32, by omega⟩ ⟨t.val % 32 * 256 + r.val, by omega⟩ r rfl rfl j).trans
    ((flat_row _ _ ⟨t.val * 256 + r.val, by omega⟩ ?_ j _ _).symm.trans (congrArg (val_main_v212 (F := Ideal) _ _ _ _ _ _ _ _ _ _ _ _) ?_))
  · show t.val * 256 + r.val = t.val / 32 * 8192 + (t.val % 32 * 256 + r.val)
    omega
  · blk_ext [idx t]

/-- The layer's normalised output. -/
theorem final14 : (dats m 0 c).arrAt 14 (cfgs 0).N = val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 14 _ (by decide +kernel) fun t _ y => ?_
  blk_simp
  rw [after0_14]
  have ht : t.val < 64 := t.isLt
  obtain ⟨r, j, rfl⟩ : ∃ (r : Fin 256) (j : Fin 1024), y = ix2 r j := ⟨y 0, y 1, (ix2_eta y).symm⟩
  refine (tile_n m c t ⟨t.val / 32, by omega⟩ ⟨t.val % 32 * 256 + r.val, by omega⟩ r rfl rfl j).trans
    ((flat_row _ _ ⟨t.val * 256 + r.val, by omega⟩ ?_ j _ _).symm.trans (congrArg (val_main_v214 (F := Ideal) _ _ _ _ _ _ _ _ _ _ _ _ _) ?_))
  · show t.val * 256 + r.val = t.val / 32 * 8192 + (t.val % 32 * 256 + r.val)
    omega
  · blk_ext [idx t]

/-- The two cache arrays are written back after a batch entry's last tile. -/
theorem last_tile : ∀ t : Fin cfg0.N, ((cfg0.win 15).flush t = true → t.val % 32 = 31) ∧ ((cfg0.win 16).flush t = true → t.val % 32 = 31) :=
  (by decide +kernel : ∀ t : Fin grid0.N, _)

/-- The key cache. -/
theorem final15 : (dats m 0 c).arrAt 15 (cfgs 0).N = val_main_v217 (F := Ideal) (m ((c.tc : Thread nD τ).loc main_arg0)) (m ((c.tc : Thread nD τ).loc main_arg3)) (m ((c.tc : Thread nD τ).loc main_arg4)) := by
  refine (dats m 0 c).arrAt_eq_of_covers 15 _ (by decide +kernel) fun t ht y => ?_
  blk_simp
  rw [after0_15]
  have h31 := (last_tile t).1 ht
  have hlt : t.val < 64 := t.isLt
  obtain ⟨z, a, j, rfl⟩ : ∃ (z : Fin 1) (a j : Fin 128), y = ix3 z a j := ⟨y 0, y 1, y 2, (ix3_eta y).symm⟩
  have e := k_at m c t ⟨t.val / 32, by omega⟩ ⟨8064 + a.val, by omega⟩ ⟨128 + a.val, by omega⟩ rfl (by show _ = _ * 256 + (128 + a.val); rw [h31]; show 8064 + a.val = _; omega) j
  rw [outsAt0_B m c t (by omega)]
  frame_out
  unfold k0_pay9
  generalize k0_pay7 (F := Ideal) (iblk m c 1 t) _ _ = K at e ⊢
  refine Eq.trans ?_ (e.trans ((last_tokens ⟨t.val / 32, by omega⟩ _ a rfl j _ _ _ _).symm.trans (congrArg (val_main_v217 (F := Ideal) _ _ _) ?_)))
  · pointwise
  · blk_ext [idx t]

/-- The value cache. -/
theorem final16 : (dats m 0 c).arrAt 16 (cfgs 0).N = val_main_v220 (F := Ideal) (m ((c.tc : Thread nD τ).loc main_arg0)) (m ((c.tc : Thread nD τ).loc main_arg3)) (m ((c.tc : Thread nD τ).loc main_arg4)) := by
  refine (dats m 0 c).arrAt_eq_of_covers 16 _ (by decide +kernel) fun t ht y => ?_
  blk_simp
  rw [after0_16]
  have h31 := (last_tile t).2 ht
  have hlt : t.val < 64 := t.isLt
  obtain ⟨z, a, j, rfl⟩ : ∃ (z : Fin 1) (a j : Fin 128), y = ix3 z a j := ⟨y 0, y 1, y 2, (ix3_eta y).symm⟩
  have e := v_at m c t ⟨t.val / 32, by omega⟩ ⟨8064 + a.val, by omega⟩ ⟨128 + a.val, by omega⟩ rfl (by show _ = _ * 256 + (128 + a.val); rw [h31]; show 8064 + a.val = _; omega) j
  rw [outsAt0_B m c t (by omega)]
  frame_out
  unfold k0_pay10
  generalize k0_pay8 (F := Ideal) (k0_pay5 (iblk m c 1 t) _) _ = K at e ⊢
  refine Eq.trans ?_ (e.trans ((last_tokens ⟨t.val / 32, by omega⟩ _ a rfl j _ _ _ _).symm.trans (congrArg (val_main_v220 (F := Ideal) _ _ _) ?_)))
  · pointwise
  · blk_ext [idx t]

end Cert.KernelIdeal.Layer

end
-- ==== Proof.PromptEqual.lean ====
module

public import Idealize.ShloMosaic.Init
public import proofs.«01_k».proof.Defs
public import proofs.«01_k».proof.Proof.Gen.Kernel
public import proofs.«01_k».proof.Proof.Gen.KernelIdeal.Value
public import proofs.«01_k».proof.Proof.Gen.ReferenceIdeal.Run
public import proofs.«01_k».proof.Proof.Gen.ReferenceIdeal.Read
public import proofs.«01_k».proof.Proof.Finals
public import Idealize.ShloMosaic.Adequacy
public import Idealize.ShloMosaic.Lib.Claim
public import Idealize.ShloMosaic.Lib.Quiescent
import all Idealize.ShloMosaic.Lib.Claim

/-! The call `prompt_layer` (`Kernel`) equals its reference at the extended reals. -/

@[expose] public section

set_option maxRecDepth 16384

noncomputable section

namespace Cert.PromptEqual

open Idealize.ShloMosaic Idealize.SL.Sem
open Cert.KernelIdeal.Layer Cert.ReferenceIdeal.Read

/-- **The prompt layer.** At the extended reals the call's four arrays are those of the plain mathematics. -/
theorem equal : Cert.algebraic_KernelIdeal_ReferenceIdeal := by
  pair_intro
  · run_from Cert.KernelIdeal.Value.run_blocks m g
  · run_from Cert.ReferenceIdeal.Value.run m' g'
    · refine (val_main_v212_eq (F := Ideal) (StableHlo.launchContents m' c)).trans (Eq.trans ?_ (final13 m c).symm)
      simp only [StableHlo.launchContents_devRef, hagree c]
    · have e := val_main_v214_eq (F := Ideal) (StableHlo.launchContents m' c)
      simp only [StableHlo.launchContents_devRef, hagree c] at e
      exact e.trans (final14 m c).symm
    · refine (val_main_v217_eq (F := Ideal) (StableHlo.launchContents m' c)).trans (Eq.trans ?_ (final15 m c).symm)
      simp only [StableHlo.launchContents_devRef, hagree c]
    · refine (val_main_v220_eq (F := Ideal) (StableHlo.launchContents m' c)).trans (Eq.trans ?_ (final16 m c).symm)
      simp only [StableHlo.launchContents_devRef, hagree c]

end Cert.PromptEqual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.MemKvClaims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.SampleClaims
public import proofs.«01_k».proof.Proof.PromptFrames
public import proofs.«01_k».proof.Proof.PromptEqual
public import Idealize.ShloMosaic.Adequacy
public import Idealize.ShloMosaic.Init

@[expose] public section

noncomputable section

namespace Cert.Proof

open Idealize.ShloMosaic Idealize.SL.Sem Cert.Kernel

/-- The three calls run, keep their arguments and equal their references at the extended reals. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  PromptFrames.frame_bits, PromptFrames.frame_ideal, PromptFrames.frame_reference, MemKvClaims.frame_bits,
  MemKvClaims.frame_ideal, MemKvClaims.frame_reference, SampleClaims.frame_bits, SampleClaims.frame_ideal,
  SampleClaims.frame_reference, trivial, PromptEqual.equal, trivial, MemKvClaims.equal, trivial, SampleClaims.equal⟩

end Cert.Proof

end
